-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_determined [hKernelIdeal : Cert.KernelIdeal.Facts] [hReferenceIdeal : Cert.ReferenceIdeal.Facts] [hOn_determined : Cert.On_determined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_determined.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_determined.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v14) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts) (hOn_determined : Cert.On_determined.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_on_determined (hKernelIdeal := hKernelIdeal) (hReferenceIdeal := hReferenceIdeal) (hOn_determined := hOn_determined)
    ∧ algebraic_KernelIdeal_ReferenceIdeal_pre_tame_KernelIdeal (hKernelIdeal := hKernelIdeal) (hReferenceIdeal := hReferenceIdeal) (hPre_tame_KernelIdeal := hPre_tame_KernelIdeal)
-- ==== On_determined.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x2048 32 := (extsi 32 · natLt_8_32) main_arg1
  let main_v4 : FVec F S4096x2048 .f32 := sitofp .f32 main_v3
  let main_v5 : FVec F S4096x2048 .f32 := Host.absf main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== Pre_tame_KernelIdeal.lean ====
abbrev S512x4096 : Shape := ⟨2, ![512, 4096]⟩
abbrev S4096x256 : Shape := ⟨2, ![4096, 256]⟩
abbrev S1 : Shape := ⟨1, ![1]⟩
abbrev S_ : Shape := ⟨0, ![]⟩
abbrev S512 : Shape := ⟨1, ![512]⟩
abbrev S256 : Shape := ⟨1, ![256]⟩

class Facts : Prop where
  natLt_8_32 : 8 < 32
  reducesTo_S512x4096_S512_d1 : S512x4096.ReducesTo [1] S512
  h_S_ : 0 < S_.numel
  bcast_S_S512 : S_.BroadcastsInDim S512 (![] : Fin 0 → Fin S512.rank)
  reducesTo_S4096x256_S256_d0 : S4096x256.ReducesTo [0] S256
  bcast_S_S256 : S_.BroadcastsInDim S256 (![] : Fin 0 → Fin S256.rank)

variable [Facts]

def fn {F : FTy → Type} [FloatOps F] (main_arg0 : IVec S512x4096 8) (main_arg1 : IVec S4096x256 8) (main_arg2 : FVec F S1 .f32) (main_arg3 : FVec F S1 .f32) : IVec S512 1 × IVec S256 1 :=
  let main_v0 : IVec S512x4096 32 := (extsi 32 · natLt_8_32) main_arg0
  let main_v1 : FVec F S512x4096 .f32 := sitofp .f32 main_v0
  let main_v2 : IVec S4096x256 32 := (extsi 32 · natLt_8_32) main_arg1
  let main_v3 : FVec F S4096x256 .f32 := sitofp .f32 main_v2
  let main_v4 : FVec F S512x4096 .f32 := mulf main_v1 main_v1
  let main_cst : FVec F S_ .f32 := constant S_ .f32 0x00000000#32
  let main_v5 : FVec F S512 .f32 := (fun x v => Host.reduceAdd x v reducesTo_S512x4096_S512_d1 h_S_) main_v4 main_cst
  let main_cst_0 : FVec F S_ .f32 := constant S_ .f32 0x4B800000#32
  let main_v6 : FVec F S512 .f32 := broadcastInDim S512 ![] bcast_S_S512 main_cst_0
  let main_v7 : IVec S512 1 := cmpf .olt main_v5 main_v6
  let main_v8 : FVec F S4096x256 .f32 := mulf main_v3 main_v3
  let main_cst_1 : FVec F S_ .f32 := constant S_ .f32 0x00000000#32
  let main_v9 : FVec F S256 .f32 := (fun x v => Host.reduceAdd x v reducesTo_S4096x256_S256_d0 h_S_) main_v8 main_cst_1
  let main_cst_2 : FVec F S_ .f32 := constant S_ .f32 0x4B800000#32
  let main_v10 : FVec F S256 .f32 := broadcastInDim S256 ![] bcast_S_S256 main_cst_2
  let main_v11 : IVec S256 1 := cmpf .olt main_v9 main_v10
  (main_v7, main_v11)
-- ==== Pre_tame_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x4096 .f32 := mulf main_v1 main_v1
  let main_cst : FVec F S_ .f32 := constant S_ .f32 0x00000000#32
  let main_v5 : FVec F S4096 .f32 := (fun x v => Host.reduceAdd x v reducesTo_S4096x4096_S4096_d1 h_S_) main_v4 main_cst
  let main_cst_0 : FVec F S_ .f32 := constant S_ .f32 0x4B800000#32
  let main_v6 : FVec F S4096 .f32 := broadcastInDim S4096 ![] bcast_S_S4096 main_cst_0
  let main_v7 : IVec S4096 1 := cmpf .olt main_v5 main_v6
  let main_v8 : FVec F S4096x2048 .f32 := mulf main_v3 main_v3
  let main_cst_1 : FVec F S_ .f32 := constant S_ .f32 0x00000000#32
  let main_v9 : FVec F S2048 .f32 := (fun x v => Host.reduceAdd x v reducesTo_S4096x2048_S2048_d0 h_S_) main_v8 main_cst_1
  let main_cst_2 : FVec F S_ .f32 := constant S_ .f32 0x4B800000#32
  let main_v10 : FVec F S2048 .f32 := broadcastInDim S2048 ![] bcast_S_S2048 main_cst_2
  let main_v11 : IVec S2048 1 := cmpf .olt main_v9 main_v10
  (main_v7, main_v11)
-- ==== Kernel.lean ====
abbrev S512x4096 : Shape := ⟨2, ![512, 4096]⟩
abbrev S4096x256 : Shape := ⟨2, ![4096, 256]⟩
abbrev S1 : Shape := ⟨1, ![1]⟩
abbrev S7x512x4096 : Shape := ⟨3, ![7, 512, 4096]⟩
abbrev S7 : Shape := ⟨1, ![7]⟩
abbrev S_ : Shape := ⟨0, ![]⟩
abbrev S1x512x4096 : Shape := ⟨3, ![1, 512, 4096]⟩
abbrev S512x256 : Shape := ⟨2, ![512, 256]⟩

abbrev nBuf : Space → Nat
  | .hbm => 5
  | .vmem => 4
  | .smem => 2
  | _ => 0

abbrev bufTy : (tb : Table) → Fin (tcTables nBuf tb) → BufTy
  | .hbm, ⟨0, _⟩ => ⟨S512x4096, .i8⟩
  | .hbm, ⟨1, _⟩ => ⟨S4096x256, .i8⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .i8⟩
  | .local _ .vmem, ⟨1, _⟩ => ⟨S4096x256, .i8⟩
  | .local _ .vmem, ⟨2, _⟩ => ⟨S4096x256, .f32⟩
  | .local _ .vmem, ⟨3, _⟩ => ⟨S7x512x4096, .i8⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_44 : BitVec 32 := 1#32
  let v83 : BitVec 32 := Scalar.muli v32 c1_i32_44
  let v84 : BitVec 32 := Scalar.addi c0_i32_45 v83
  v84.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v33 : BitVec 32 := Scalar.muli v19 c4_i32_13
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_47 : BitVec 32 := 1#32
  let v85 : BitVec 32 := Scalar.muli v35 c1_i32_47
  let v86 : BitVec 32 := Scalar.addi c0_i32_48 v85
  v86.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v36 : BitVec 32 := Scalar.addi v2 c4_i32_14
  let c8_i32_15 : BitVec 32 := 8#32
  let c0_i32_16 : BitVec 32 := 0#32
  let v37 : BitVec 1 := Scalar.cmpi .eq c8_i32_15 c0_i32_16
  let c1_i32_17 : BitVec 32 := 1#32
  let v38 : BitVec 32 := Scalar.select v37 c1_i32_17 c8_i32_15
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c1_i32_50 : BitVec 32 := 1#32
  let v87 : BitVec 32 := Scalar.muli v46 c1_i32_50
  let v88 : BitVec 32 := Scalar.addi c0_i32_51 v87
  v88.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_21 : BitVec 32 := 4#32
  let v47 : BitVec 32 := Scalar.muli v19 c4_i32_21
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v48 : BitVec 32 := Scalar.addi v29 c2_i32
  let c4_i32_22 : BitVec 32 := 4#32
  let c0_i32_23 : BitVec 32 := 0#32
  let v49 : BitVec 1 := Scalar.cmpi .eq c4_i32_22 c0_i32_23
  let c1_i32_24 : BitVec 32 := 1#32
  let v50 : BitVec 32 := Scalar.select v49 c1_i32_24 c4_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let v59 : BitVec 32 := Scalar.addi v47 v58
  let c1_i32_53 : BitVec 32 := 1#32
  let v89 : BitVec 32 := Scalar.muli v59 c1_i32_53
  let v90 : BitVec 32 := Scalar.addi c0_i32_54 v89
  v90.toNat
def k0_dev5 (d0 : Dev nD) : Nat :=
  let c0_i32_57 : BitVec 32 := 0#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v60 : BitVec 32 := Scalar.subi c1_i32_28 v19
  let c4_i32_29 : BitVec 32 := 4#32
  let v61 : BitVec 32 := Scalar.muli v60 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v62 : BitVec 32 := Scalar.xori v29 c1_i32_30
  let v63 : BitVec 32 := Scalar.addi v61 v62
  let c1_i32_56 : BitVec 32 := 1#32
  let v91 : BitVec 32 := Scalar.muli v63 c1_i32_56
  let v92 : BitVec 32 := Scalar.addi c0_i32_57 v91
  v92.toNat
def k0_dev6 (d0 : Dev nD) : Nat :=
  let c0_i32_60 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_31 v19
  let c4_i32_32 : BitVec 32 := 4#32
  let v65 : BitVec 32 := Scalar.muli v64 c4_i32_32
  let c3_i32_33 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v66 : BitVec 32 := Scalar.subi c3_i32_33 v29
  let v67 : BitVec 32 := Scalar.addi v65 v66
  let c1_i32_59 : BitVec 32 := 1#32
  let v93 : BitVec 32 := Scalar.muli v67 c1_i32_59
  let v94 : BitVec 32 := Scalar.addi c0_i32_60 v93
  v94.toNat
def k0_dev7 (d0 : Dev nD) : Nat :=
  let c0_i32_63 : BitVec 32 := 0#32
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.subi c1_i32_34 v19
  let c4_i32_35 : BitVec 32 := 4#32
  let v69 : BitVec 32 := Scalar.muli v68 c4_i32_35
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_36 : BitVec 32 := 2#32
  let v70 : BitVec 32 := Scalar.addi v29 c2_i32_36
  let c4_i32_37 : BitVec 32 := 4#32
  let c0_i32_38 : BitVec 32 := 0#32
  let v71 : BitVec 1 := Scalar.cmpi .eq c4_i32_37 c0_i32_38
  let c1_i32_39 : BitVec 32 := 1#32
  let v72 : BitVec 32 := Scalar.select v71 c1_i32_39 c4_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v81 : BitVec 32 := Scalar.addi v69 v80
  let c1_i32_62 : BitVec 32 := 1#32
  let v95 : BitVec 32 := Scalar.muli v81 c1_i32_62
  let v96 : BitVec 32 := Scalar.addi c0_i32_63 v95
  v96.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_67 : BitVec 32 := 1#32
  let v97 : BitVec 32 := Scalar.muli v32 c1_i32_67
  let v98 : BitVec 32 := Scalar.addi c0_i32_68 v97
  v98.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v33 : BitVec 32 := Scalar.muli v19 c4_i32_13
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_74 : BitVec 32 := 1#32
  let v105 : BitVec 32 := Scalar.muli v35 c1_i32_74
  let v106 : BitVec 32 := Scalar.addi c0_i32_75 v105
  v106.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v36 : BitVec 32 := Scalar.addi v2 c4_i32_14
  let c8_i32_15 : BitVec 32 := 8#32
  let c0_i32_16 : BitVec 32 := 0#32
  let v37 : BitVec 1 := Scalar.cmpi .eq c8_i32_15 c0_i32_16
  let c1_i32_17 : BitVec 32 := 1#32
  let v38 : BitVec 32 := Scalar.select v37 c1_i32_17 c8_i32_15
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c1_i32_81 : BitVec 32 := 1#32
  let v113 : BitVec 32 := Scalar.muli v46 c1_i32_81
  let v114 : BitVec 32 := Scalar.addi c0_i32_82 v113
  v114.toNat
def k0_dev11 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_21 : BitVec 32 := 4#32
  let v47 : BitVec 32 := Scalar.muli v19 c4_i32_21
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v48 : BitVec 32 := Scalar.addi v29 c2_i32
  let c4_i32_22 : BitVec 32 := 4#32
  let c0_i32_23 : BitVec 32 := 0#32
  let v49 : BitVec 1 := Scalar.cmpi .eq c4_i32_22 c0_i32_23
  let c1_i32_24 : BitVec 32 := 1#32
  let v50 : BitVec 32 := Scalar.select v49 c1_i32_24 c4_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let v59 : BitVec 32 := Scalar.addi v47 v58
  let c1_i32_88 : BitVec 32 := 1#32
  let v121 : BitVec 32 := Scalar.muli v59 c1_i32_88
  let v122 : BitVec 32 := Scalar.addi c0_i32_89 v121
  v122.toNat
def k0_dev12 (d0 : Dev nD) : Nat :=
  let c0_i32_96 : BitVec 32 := 0#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v60 : BitVec 32 := Scalar.subi c1_i32_28 v19
  let c4_i32_29 : BitVec 32 := 4#32
  let v61 : BitVec 32 := Scalar.muli v60 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v62 : BitVec 32 := Scalar.xori v29 c1_i32_30
  let v63 : BitVec 32 := Scalar.addi v61 v62
  let c1_i32_95 : BitVec 32 := 1#32
  let v129 : BitVec 32 := Scalar.muli v63 c1_i32_95
  let v130 : BitVec 32 := Scalar.addi c0_i32_96 v129
  v130.toNat
def k0_dev13 (d0 : Dev nD) : Nat :=
  let c0_i32_102 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_31 v19
  let c4_i32_32 : BitVec 32 := 4#32
  let v65 : BitVec 32 := Scalar.muli v64 c4_i32_32
  let c3_i32_33 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v66 : BitVec 32 := Scalar.subi c3_i32_33 v29
  let v67 : BitVec 32 := Scalar.addi v65 v66
  let c1_i32_101 : BitVec 32 := 1#32
  let v137 : BitVec 32 := Scalar.muli v67 c1_i32_101
  let v138 : BitVec 32 := Scalar.addi c0_i32_102 v137
  v138.toNat
def k0_dev14 (d0 : Dev nD) : Nat :=
  let c0_i32_108 : BitVec 32 := 0#32
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.subi c1_i32_34 v19
  let c4_i32_35 : BitVec 32 := 4#32
  let v69 : BitVec 32 := Scalar.muli v68 c4_i32_35
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_36 : BitVec 32 := 2#32
  let v70 : BitVec 32 := Scalar.addi v29 c2_i32_36
  let c4_i32_37 : BitVec 32 := 4#32
  let c0_i32_38 : BitVec 32 := 0#32
  let v71 : BitVec 1 := Scalar.cmpi .eq c4_i32_37 c0_i32_38
  let c1_i32_39 : BitVec 32 := 1#32
  let v72 : BitVec 32 := Scalar.select v71 c1_i32_39 c4_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v81 : BitVec 32 := Scalar.addi v69 v80
  let c1_i32_107 : BitVec 32 := 1#32
  let v145 : BitVec 32 := Scalar.muli v81 c1_i32_107
  let v146 : BitVec 32 := Scalar.addi c0_i32_108 v145
  v146.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v174 : BitVec 32 := Scalar.muli v2 c512_i32
  let v175 : Index := Scalar.indexCast v174
  let c0_120 : Index := 0#32
  ![v175.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c512_i32_138 : BitVec 32 := 512#32
  let v201 : BitVec 32 := Scalar.muli v32 c512_i32_138
  let v202 : Index := Scalar.indexCast v201
  let c0_139 : Index := 0#32
  ![v202.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v33 : BitVec 32 := Scalar.muli v19 c4_i32_13
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c512_i32_156 : BitVec 32 := 512#32
  let v228 : BitVec 32 := Scalar.muli v35 c512_i32_156
  let v229 : Index := Scalar.indexCast v228
  let c0_157 : Index := 0#32
  ![v229.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v36 : BitVec 32 := Scalar.addi v2 c4_i32_14
  let c8_i32_15 : BitVec 32 := 8#32
  let c0_i32_16 : BitVec 32 := 0#32
  let v37 : BitVec 1 := Scalar.cmpi .eq c8_i32_15 c0_i32_16
  let c1_i32_17 : BitVec 32 := 1#32
  let v38 : BitVec 32 := Scalar.select v37 c1_i32_17 c8_i32_15
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c512_i32_174 : BitVec 32 := 512#32
  let v255 : BitVec 32 := Scalar.muli v46 c512_i32_174
  let v256 : Index := Scalar.indexCast v255
  let c0_175 : Index := 0#32
  ![v256.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_21 : BitVec 32 := 4#32
  let v47 : BitVec 32 := Scalar.muli v19 c4_i32_21
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v48 : BitVec 32 := Scalar.addi v29 c2_i32
  let c4_i32_22 : BitVec 32 := 4#32
  let c0_i32_23 : BitVec 32 := 0#32
  let v49 : BitVec 1 := Scalar.cmpi .eq c4_i32_22 c0_i32_23
  let c1_i32_24 : BitVec 32 := 1#32
  let v50 : BitVec 32 := Scalar.select v49 c1_i32_24 c4_i32_22
  let v51 : BitVec 32 := Scalar.remsi v48 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let v59 : BitVec 32 := Scalar.addi v47 v58
  let c512_i32_192 : BitVec 32 := 512#32
  let v282 : BitVec 32 := Scalar.muli v59 c512_i32_192
  let v283 : Index := Scalar.indexCast v282
  let c0_193 : Index := 0#32
  ![v283.toNat, 0]
def k0_off6 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v60 : BitVec 32 := Scalar.subi c1_i32_28 v19
  let c4_i32_29 : BitVec 32 := 4#32
  let v61 : BitVec 32 := Scalar.muli v60 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v62 : BitVec 32 := Scalar.xori v29 c1_i32_30
  let v63 : BitVec 32 := Scalar.addi v61 v62
  let c512_i32_210 : BitVec 32 := 512#32
  let v309 : BitVec 32 := Scalar.muli v63 c512_i32_210
  let v310 : Index := Scalar.indexCast v309
  let c0_211 : Index := 0#32
  ![v310.toNat, 0]
def k0_off7 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_31 v19
  let c4_i32_32 : BitVec 32 := 4#32
  let v65 : BitVec 32 := Scalar.muli v64 c4_i32_32
  let c3_i32_33 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v66 : BitVec 32 := Scalar.subi c3_i32_33 v29
  let v67 : BitVec 32 := Scalar.addi v65 v66
  let c512_i32_228 : BitVec 32 := 512#32
  let v336 : BitVec 32 := Scalar.muli v67 c512_i32_228
  let v337 : Index := Scalar.indexCast v336
  let c0_229 : Index := 0#32
  ![v337.toNat, 0]
def k0_off8 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.subi c1_i32_34 v19
  let c4_i32_35 : BitVec 32 := 4#32
  let v69 : BitVec 32 := Scalar.muli v68 c4_i32_35
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_36 : BitVec 32 := 2#32
  let v70 : BitVec 32 := Scalar.addi v29 c2_i32_36
  let c4_i32_37 : BitVec 32 := 4#32
  let c0_i32_38 : BitVec 32 := 0#32
  let v71 : BitVec 1 := Scalar.cmpi .eq c4_i32_37 c0_i32_38
  let c1_i32_39 : BitVec 32 := 1#32
  let v72 : BitVec 32 := Scalar.select v71 c1_i32_39 c4_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v81 : BitVec 32 := Scalar.addi v69 v80
  let c512_i32_246 : BitVec 32 := 512#32
  let v363 : BitVec 32 := Scalar.muli v81 c512_i32_246
  let v364 : Index := Scalar.indexCast v363
  let c0_247 : Index := 0#32
  ![v364.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Protocol.lean ====
/-
# The exchange protocol

Eight devices. Device `c` exchanges with its seven peers `pr d c`, `d = 0 … 6`, where `pr d` flips the bits `msk d` of
the device number, so that each `pr d` is its own inverse and slot `d` of a device is filled by the device whose
slot `d` it fills itself.

* Each device signals the barrier cell of its seven peers and waits for seven units on its own. The signal to peer
  `pr d c` hands that peer slot `d` of the signaller's landing buffer.
* Then it copies its block of `x` to slot `d` of peer `pr d c`, for every `d`; the seven copies read the staged block
  together with the device's own load, so each takes a read share of it. The send cell `d` gives the share back,
  the receive cell `d` of the peer hands it the filled slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's (duties named by the slot) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- The bits of the device number that exchange `d` flips. -/
def msk (d : Fin 7) : ℕ := ![1, 3, 4, 2, 5, 7, 6] d

/-- The device that device `c` exchanges with through slot `d`. -/
def pr (d : Fin 7) (c : Dev nD) : Dev nD := ⟨(c.val ^^^ msk d) % 8, Nat.mod_lt _ (by decide)⟩

theorem pr_pr : ∀ (d : Fin 7) (c : Dev nD), pr d (pr d c) = c := by decide

/-- Every device is `c` itself or one of its seven peers. -/
theorem dev_cases : ∀ c b : Dev nD, b = c ∨ ∃ d : Fin 7, b = pr d c := by decide

/-- The exchange through slot `d`, as a permutation of the devices. -/
def swp (d : Fin 7) : Dev nD ≃ Dev nD := ⟨pr d, pr d, pr_pr d, pr_pr d⟩

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem dev4_eq (c : Dev nD) : (⟨k0_dev4 c, k0_dev4_lt c⟩ : Dev nD) = pr 3 c := by revert c; decide +kernel
theorem dev5_eq (c : Dev nD) : (⟨k0_dev5 c, k0_dev5_lt c⟩ : Dev nD) = pr 4 c := by revert c; decide +kernel
theorem dev6_eq (c : Dev nD) : (⟨k0_dev6 c, k0_dev6_lt c⟩ : Dev nD) = pr 5 c := by revert c; decide +kernel
theorem dev7_eq (c : Dev nD) : (⟨k0_dev7 c, k0_dev7_lt c⟩ : Dev nD) = pr 6 c := by revert c; decide +kernel
theorem dev8_eq (c : Dev nD) : (⟨k0_dev8 c, k0_dev8_lt c⟩ : Dev nD) = pr 0 c := by revert c; decide +kernel
theorem dev9_eq (c : Dev nD) : (⟨k0_dev9 c, k0_dev9_lt c⟩ : Dev nD) = pr 1 c := by revert c; decide +kernel
theorem dev10_eq (c : Dev nD) : (⟨k0_dev10 c, k0_dev10_lt c⟩ : Dev nD) = pr 2 c := by revert c; decide +kernel
theorem dev11_eq (c : Dev nD) : (⟨k0_dev11 c, k0_dev11_lt c⟩ : Dev nD) = pr 3 c := by revert c; decide +kernel
theorem dev12_eq (c : Dev nD) : (⟨k0_dev12 c, k0_dev12_lt c⟩ : Dev nD) = pr 4 c := by revert c; decide +kernel
theorem dev13_eq (c : Dev nD) : (⟨k0_dev13 c, k0_dev13_lt c⟩ : Dev nD) = pr 5 c := by revert c; decide +kernel
theorem dev14_eq (c : Dev nD) : (⟨k0_dev14 c, k0_dev14_lt c⟩ : Dev nD) = pr 6 c := by revert c; decide +kernel

/-! ## The memrefs and cells -/

abbrev xM : Memref sig .tc .vmem S512x4096 .i8 := Memref.whole cc0_stg0_0
abbrev wM : Memref sig .tc .vmem S4096x256 .i8 := Memref.whole cc0_stg1_0
abbrev oM : Memref sig .tc .vmem S4096x256 .f32 := Memref.whole cc0_stg4_0
abbrev scrM : Memref sig .tc .vmem S7x512x4096 .i8 := Memref.whole cc0_scratch0

theorem slot_inb : ∀ (d : Fin 7) (a : Fin 3), (![d.val, 0, 0] : Fin 3 → Nat) a + S1x512x4096.size a ≤ S7x512x4096.size a := by decide
theorem sem_inb : ∀ (d : Fin 7) (a : Fin 1), (![d.val] : Fin 1 → Nat) a + S1.size a ≤ S7.size a := by decide

/-- The rectangle of slot `d` in the landing buffer. -/
abbrev slotR (d : Fin 7) : Rect S7x512x4096 := Rect.unit (s := S7x512x4096) ![d.val, 0, 0] S1x512x4096.size (slot_inb d)
/-- Slot `d`, seen as a matrix. -/
abbrev slotM (d : Fin 7) : Memref sig .tc .vmem S512x4096 .i8 :=
  (scrM.slice (slotR d) (fun _ => rfl)).squeeze S512x4096 squeezes_S1x512x4096_S512x4096

abbrev barS : Sem sig := (SemArray.scalar (sig.barrier 0 rfl) : Sems sig S_).sem
abbrev sendS (d : Fin 7) : DmaSem sig :=
  ((cc0_scratch1.slice (Rect.unit (s := S7) ![d.val] S1.size (sem_inb d))).squeeze S_ squeezes_S1_S_).sem
abbrev recvS (d : Fin 7) : DmaSem sig :=
  ((cc0_scratch2.slice (Rect.unit (s := S7) ![d.val] S1.size (sem_inb d))).squeeze S_ squeezes_S1_S_).sem

/-- A device's cells: its barrier, its seven send cells, its seven receive cells. -/
abbrev CK : Type := Unit ⊕ (Fin 7 ⊕ Fin 7)

def csem : CK → SemLoc sig
  | .inl _ => .reg barS
  | .inr (.inl d) => .dma (sendS d)
  | .inr (.inr d) => .dma (recvS d)

/-- Which of a device's cells a semaphore is. -/
def kind : SemLoc sig → Option CK
  | .reg s => if s = barS then some (.inl ()) else none
  | .dma q => if h : 5 ≤ q.val ∧ q.val < 12 then some (.inr (.inl ⟨q.val - 5, by omega⟩))
      else if h : 12 ≤ q.val ∧ q.val < 19 then some (.inr (.inr ⟨q.val - 12, by omega⟩)) else none

theorem kind_csem : ∀ k : CK, kind (csem k) = some k := by decide

theorem csem_inj : Function.Injective csem := fun a b h => Option.some.inj ((kind_csem a).symm.trans ((congrArg kind h).trans (kind_csem b)))

abbrev kcell (ck : Dev nD × CK) : GSem nD τ sig := ((ck.1 : Thread nD τ), csem ck.2)
abbrev barCell (c : Dev nD) : GSem nD τ sig := kcell (c, .inl ())
abbrev sendCell (c : Dev nD) (d : Fin 7) : GSem nD τ sig := kcell (c, .inr (.inl d))
abbrev recvCell (c : Dev nD) (d : Fin 7) : GSem nD τ sig := kcell (c, .inr (.inr d))

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_inj h2]

/-- The units one block's transfer credits. -/
abbrev N : ℕ := (slotM 0).view.dmaCredit
theorem N_pos : 0 < N := View.dmaCredit_pos _ (by decide)

/-! ## Contents -/

/-- Device `c`'s block of `x`, its block of `w`, and its two scale factors, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- Slot `d` of device `c`, held at contents `f` of the landing buffer. -/
def slotPts (c : Dev nD) (d : Fin 7) (f : Buf (Elt F) ((slotM d).view.loc (c : Thread nD τ))) : sProp 𝕄 :=
  (slotM d).view.loc (c : Thread nD τ) ↦[(slotM d).view.set]{fullShare} f
/-- Slot `d` of device `c` at some contents. -/
def slotAny (c : Dev nD) (d : Fin 7) : sProp 𝕄 := iprop(∃ f, slotPts (F := F) c d f)
/-- Slot `d` of device `c` holding its peer's block. -/
def slotGot (c : Dev nD) (d : Fin 7) : sProp 𝕄 :=
  iprop(∃ f : Buf (Elt F) ((slotM d).view.loc (c : Thread nD τ)), ⌜(slotM d).view.read (Elt F) f = xstg m ρ (pr d c)⌝ ∗ slotPts c d f)
/-- The read share of device `c`'s staged block that its copy `d` takes. -/
def xTok (c : Dev nD) (d : Fin 7) : sProp 𝕄 :=
  xM.view.loc (c : Thread nD τ) ↦[xM.view.set]{Transfers.shareTok fullShare 7 d} xstg m ρ c
/-- The read share the device keeps for its own load. -/
def xKeep (c : Dev nD) : sProp 𝕄 :=
  xM.view.loc (c : Thread nD τ) ↦[xM.view.set]{Transfers.shareDrop fullShare 7} xstg m ρ c

omit [FloatOps F] in
instance slotPts_storable (c : Dev nD) (d : Fin 7) (f) : BI.Storable (upEmb : UEmb _ 𝕄) (slotPts (F := F) c d f) := by unfold slotPts; infer_instance
omit [FloatOps F] in
instance slotAny_storable (c : Dev nD) (d : Fin 7) : BI.Storable (upEmb : UEmb _ 𝕄) (slotAny (F := F) c d) := by unfold slotAny; infer_instance
omit [FloatOps F] in
instance slotGot_storable (c : Dev nD) (d : Fin 7) : BI.Storable (upEmb : UEmb _ 𝕄) (slotGot (F := F) m ρ c d) := by unfold slotGot; infer_instance
omit [FloatOps F] in
instance xTok_storable (c : Dev nD) (d : Fin 7) : BI.Storable (upEmb : UEmb _ 𝕄) (xTok (F := F) m ρ c d) := by unfold xTok; infer_instance

/-! ## The schedule -/

/-- The duties of a cell's one round: seven at a barrier, one elsewhere. -/
def dutiesOf : Option CK → Finset (Fin 7)
  | some (.inl _) => Finset.univ
  | some (.inr _) => {0}
  | none => ∅
/-- The units of a duty: one at a barrier, a block's credit elsewhere. -/
def amountOf : Option CK → ℕ
  | some (.inl _) => 1
  | _ => N
/-- What a duty hands to the cell's owner `c`. -/
def payloadOf (c : Dev nD) (d : Fin 7) : Option CK → sProp 𝕄
  | some (.inl _) => slotAny (pr d c) d
  | some (.inr (.inl d')) => xTok m ρ c d'
  | some (.inr (.inr d')) => slotGot m ρ c d'
  | none => iprop(emp)

def exch : Rounds.Schedule (GSem nD τ sig) (Fin 7) 𝕄 where
  duties g r := if r = 0 ∧ g.1.2 = .tc then dutiesOf (kind g.2) else ∅
  unitless _ := False
  amount g _ _ := amountOf (kind g.2)
  payload g _ d := payloadOf m ρ g.1.1 d (kind g.2)
  amount_pos g _ _ _ := by
    rcases kind g.2 with _ | _ | _ <;> first | exact N_pos | exact Nat.one_pos

instance exch_payload_storable (g : GSem nD τ sig) (r : ℕ) (d : Fin 7) :
    BI.Storable (upEmb : UEmb _ 𝕄) ((exch (F := F) m ρ).payload g r d) := by
  show BI.Storable upEmb (payloadOf m ρ g.1.1 d (kind g.2))
  rcases kind g.2 with _ | _ | _ | _ <;> unfold payloadOf <;> infer_instance

section Sched
variable (c : Dev nD) (k : CK) (d : Fin 7)

omit [FloatOps F] in
theorem duties_kcell : (exch (F := F) m ρ).duties (kcell (c, k)) 0 = dutiesOf (some k) := by
  dsimp only [exch]; rw [if_pos ⟨rfl, rfl⟩, kind_csem]
omit [FloatOps F] in
theorem amount_kcell : (exch (F := F) m ρ).amount (kcell (c, k)) 0 d = amountOf (some k) := by
  dsimp only [exch]; rw [kind_csem]
omit [FloatOps F] in
theorem payload_kcell : (exch (F := F) m ρ).payload (kcell (c, k)) 0 d = payloadOf m ρ c d (some k) := by
  dsimp only [exch]; rw [kind_csem]
omit [FloatOps F] in
theorem duties_later (g : GSem nD τ sig) : ∀ r, 1 ≤ r → (exch (F := F) m ρ).duties g r = ∅ :=
  fun r hr => by dsimp only [exch]; rw [if_neg fun h => by omega]

omit [FloatOps F] in
theorem expect_bar : (exch (F := F) m ρ).expect (barCell c) 0 = 7 := by
  unfold Schedule.expect Schedule.amountOf
  rw [duties_kcell, Finset.sum_congr rfl fun d _ => amount_kcell m ρ c (.inl ()) d]
  rfl
omit [FloatOps F] in
theorem expect_dma (e : Fin 7 ⊕ Fin 7) : (exch (F := F) m ρ).expect (kcell (c, .inr e)) 0 = N := by
  unfold Schedule.expect Schedule.amountOf
  rw [duties_kcell, Finset.sum_congr rfl fun d _ => amount_kcell m ρ c (.inr e) d]
  exact Finset.sum_singleton _ _

omit [FloatOps F] in
/-- The rest of the barrier cell's round: slot `d` of every peer `pr d c`. -/
theorem rest_bar : bigSep ((exch (F := F) m ρ).duties (barCell c) 0 \ ∅) (fun d => (exch (F := F) m ρ).payload (barCell c) 0 d)
    = bigSep Finset.univ fun d => slotAny (pr d c) d := by
  rw [Finset.sdiff_empty, duties_kcell, bigSep_congr fun d _ => payload_kcell m ρ c (.inl ()) d]; rfl
omit [FloatOps F] in
theorem rest_dma (e : Fin 7 ⊕ Fin 7) : bigSep ((exch (F := F) m ρ).duties (kcell (c, .inr e)) 0 \ ∅) (fun d => (exch (F := F) m ρ).payload (kcell (c, .inr e)) 0 d)
    = payloadOf m ρ c 0 (some (.inr e)) := by
  rw [Finset.sdiff_empty, duties_kcell, bigSep_congr fun d _ => payload_kcell m ρ c (.inr e) d]
  exact bigSep_singleton

end Sched

/-! ## What each core owes at launch; the levels -/

/-- The slots in the order the program goes through them. -/
def slots : List (Fin 7) := [0, 1, 2, 3, 4, 5, 6]

/-- The receive credit device `c` owes its peers for the copies `l`, -/
def oweR (c : Dev nD) : List (Fin 7) → CellTallies nD τ sig Unit
  | [] => 0
  | d :: l => oweR c l + tallyAt (recvCell (pr d c) d) () N
/-- and all of that with the barrier units for the signals `l`. -/
def oweB (c : Dev nD) : List (Fin 7) → CellTallies nD τ sig Unit
  | [] => oweR c slots
  | d :: l => oweB c l + tallyAt (barCell (pr d c)) () 1
def O₀ (c : Dev nD) : CellTallies nD τ sig Unit := oweB c slots

theorem oweR_pos {c : Dev nD} {g : GSem nD τ sig} {u : Unit} : ∀ {l : List (Fin 7)}, 0 < oweR c l g u → ∃ d, g = recvCell (pr d c) d
  | [], h => absurd h (Nat.lt_irrefl 0)
  | d :: l, h => by
    by_cases hg : g = recvCell (pr d c) d
    · exact ⟨d, hg⟩
    · unfold oweR at h
      rw [Pi.add_apply, Finsupp.add_apply, tallyAt_apply, if_neg (fun h' => hg h'.1), Nat.add_zero] at h
      exact oweR_pos h
theorem oweB_pos {c : Dev nD} {g : GSem nD τ sig} {u : Unit} :
    ∀ {l : List (Fin 7)}, 0 < oweB c l g u → (∃ d, g = recvCell (pr d c) d) ∨ ∃ d, g = barCell (pr d c)
  | [], h => Or.inl (oweR_pos h)
  | d :: l, h => by
    by_cases hg : g = barCell (pr d c)
    · exact Or.inr ⟨d, hg⟩
    · unfold oweB at h
      rw [Pi.add_apply, Finsupp.add_apply, tallyAt_apply, if_neg (fun h' => hg h'.1), Nat.add_zero] at h
      exact oweB_pos h

def L (g : GSem nD τ sig) : Finset Unit := if g.1.2 = .tc then {()} else ∅
/-- The level of a cell: barriers at 1, receive cells at 2, everything else at 0. -/
def lvOf : Option CK → ℕ
  | some (.inl _) => 1
  | some (.inr (.inr _)) => 2
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CK) (u : Unit) : lv (kcell ck) u = lvOf (some ck.2) := by unfold lv; rw [kind_csem]

omit [FloatOps F] in
/-- A cell of level 0 may be waited on owing all that is owed at launch, or nothing. -/
theorem mayWait_stage (c : Dev nD) (q : DmaSem sig) (hq : lvOf (kind (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨d, rfl⟩ | ⟨d, rfl⟩ <;> exact Finset.mem_singleton_self _)
      (fun p hp => by rw [Finset.mem_singleton.mp hp]; exact hq.le)
      (fun g u hg => by
        rcases oweB_pos hg with ⟨d, rfl⟩ | ⟨d, rfl⟩ <;> rw [lv_kcell]
        · exact Nat.two_pos
        · exact Nat.one_pos)
  · rw [MayWait_zero]; iintro -; iempintro

omit [FloatOps F] in
/-- At its barrier wait a device owes receive credit only, and receive cells are above its barrier cell. -/
theorem mayWait_bar (c : Dev nD) :
    (levAts L lv : sProp 𝕄) ⊢ MayWait (c : Thread nD τ) (csem (.inl ())) () (oweR c slots) :=
  MayOwe.of_cut (L := L) (lev := lv) 1 (fun p hp => by rw [Finset.mem_singleton.mp hp, L_tc]; exact Finset.mem_singleton_self _)
    (fun g u hg => by obtain ⟨d, rfl⟩ := oweR_pos hg; exact Finset.mem_singleton_self _)
    (fun p hp => by rw [Finset.mem_singleton.mp hp]; exact (lv_kcell (c, .inl ()) ()).le)
    (fun g u hg => by obtain ⟨d, rfl⟩ := oweR_pos hg; rw [lv_kcell]; exact Nat.one_lt_two)

/-! ## The ghost state -/

/-- The invariants of every device's cells, allocated at the names `K`, and that every cell has reached its round. -/
def records (K : Dev nD × CK → ℕ) : sProp 𝕄 :=
  iprop((bigSep Finset.univ fun ck : Dev nD × CK => cellInv ER (exch m ρ) (K ck) (kcell ck))
    ∗ bigSep Finset.univ fun ck : Dev nD × CK => reached ER (kcell ck) 0)

instance records_persistent (K : Dev nD × CK → ℕ) : BI.Persistent (records m ρ K) := by unfold records; infer_instance

omit [FloatOps F] in
theorem inv_at (K : Dev nD × CK → ℕ) (ck : Dev nD × CK) :
    records m ρ K ⊢ (cellInv ER (exch m ρ) (K ck) (kcell ck) : sProp 𝕄) := by
  have h : (bigSep Finset.univ fun ck : Dev nD × CK => (cellInv ER (exch m ρ) (K ck) (kcell ck) : sProp 𝕄)) ⊢ cellInv ER (exch m ρ) (K ck) (kcell ck) :=
    bigSep_elim (Finset.mem_univ ck)
  unfold records
  iintro ⟨#HI, -⟩
  iapply h; iexact HI
omit [FloatOps F] in
theorem reached_at (K : Dev nD × CK → ℕ) (ck : Dev nD × CK) : records m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records
  iintro ⟨-, #HR⟩
  iapply h; iexact HR

/-- What device `c` starts exchange `d` with: the right to signal peer `pr d c`; -/
def sigTok (c : Dev nD) (d : Fin 7) : sProp 𝕄 := dutyTok ER (barCell (pr d c)) 0 d
/-- the rights to send to it; -/
def sndTok (c : Dev nD) (d : Fin 7) : sProp 𝕄 := iprop(dutyTok ER (sendCell c d) 0 0 ∗ dutyTok ER (recvCell (pr d c) d) 0 0)
/-- its positions in its own two cells. -/
def posR (c : Dev nD) (d : Fin 7) : sProp 𝕄 := atPos ER (recvCell c d) 0 ∅ 0
def posS (c : Dev nD) (d : Fin 7) : sProp 𝕄 := atPos ER (sendCell c d) 0 ∅ 0

/-- The ghost state device `c`'s body starts from, beside the records. -/
def linear (c : Dev nD) : sProp 𝕄 :=
  iprop(atPos ER (barCell c) 0 ∅ 0 ∗ (bigSep Finset.univ fun d => posS c d) ∗ (bigSep Finset.univ fun d => posR c d)
    ∗ (bigSep Finset.univ fun d => sigTok c d) ∗ bigSep Finset.univ fun d => sndTok c d)

def ghost (c : Dev nD) : sProp 𝕄 := iprop(∃ K, records m ρ K ∗ linear c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Exchange

end
-- ==== Proof.Steps.lean ====
/-
# One rule per step of the body

The body repeats a few steps for each exchange `d`: signal the peer, send to it, wait for its block and load it,
multiply and store, wait for the own copy to have left. Each step is proved once, for every `d`; the program's own
operands enter by equations that are substituted.
-/
module

public import proofs.«01_k».proof.Proof.Protocol
public import Idealize.ShloMosaic.Lib.Pipeline.ValueKit.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of device `c`'s core. -/
abbrev CProg (α : Type) : Type 1 := Prog (TpuEff nD τ sig (Elt F) Λ₀ .tc) α

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The values -/

/-- The scale factor device `c` computes with: the product of its two staged words. -/
def scl (c : Dev nD) : F .f32 :=
  k0_pay1 (sxstg m ρ c (Shape.Idx.first (numel1_S1.symm ▸ Nat.one_pos))) (swstg m ρ c (Shape.Idx.first (numel1_S1.symm ▸ Nat.one_pos)))

/-- The device whose block of rows holds row `i`, and the index within that block. -/
def rowDev (i : S4096x256.Idx) : Dev nD := ⟨(i 0).val / 512, by have : (i 0).val < 4096 := (i 0).isLt; show _ < 8; omega⟩
def blkIdx (i : S4096x256.Idx) : S512x256.Idx := fun a => match a with
  | ⟨0, _⟩ => ⟨(i 0).val % 512, Nat.mod_lt _ (by decide)⟩
  | ⟨1, _⟩ => i 1

/-- The rows of the result on device `c` that come from device `b`'s block of `x`. -/
def rows (c b : Dev nD) : FVec F S512x256 .f32 := k0_pay3 (scl m ρ c) (xstg m ρ b) (wstg m ρ c)

/-- The result on device `c`. -/
def outAt (c : Dev nD) : (cc0_stg4_0 : Ref sig .tc).ty.Contents (Elt F) := fun i => rows m ρ c (rowDev i) (blkIdx i)

/-- The result's buffer on device `c`, the row blocks of the devices in `S` written. -/
def outPts (c : Dev nD) (S : Finset (Dev nD)) : sProp 𝕄 :=
  iprop(∃ f : Buf (Elt F) ((c : Thread nD τ).loc cc0_stg4_0), ⌜∀ i : S4096x256.Idx, rowDev i ∈ S → f i = outAt m ρ c i⌝
    ∗ (((c : Thread nD τ).loc cc0_stg4_0) ↦{fullShare} f))
def wPts (c : Dev nD) : sProp 𝕄 := ((c : Thread nD τ).loc cc0_stg1_0) ↦{fullShare} wstg m ρ c
/-- What device `c` owes, whatever it has waited for. -/
def ow (c : Dev nD) (O : CellTallies nD τ sig Unit) : sProp 𝕄 := iprop(∃ W, owes (c : Thread nD τ) O W)

omit [FloatOps F] in
/-- A block of rows written into the result's buffer: its rows hold the block, the others what they held. -/
theorem write_rows (o : Dev nD) (inb : ∀ a, (![512 * o.val, 0] : Fin 2 → Nat) a + S512x256.size a ≤ S4096x256.size a)
    (f : (cc0_stg4_0 : Ref sig .tc).ty.Contents (Elt F)) (w : S512x256.Idx → Elt F .f32) (i : S4096x256.Idx) :
    (oM.access (Rect.unit (s := S4096x256) ![512 * o.val, 0] S512x256.size inb)).write (Elt F) f w Finset.univ i
      = if rowDev i = o then w (blkIdx i) else f i := by
  have hi0 : (i 0).val < 4096 := (i 0).isLt
  have hi1 : (i 1).val < 256 := (i 1).isLt
  split
  · rename_i h
    have ho : (i 0).val / 512 = o.val := congrArg Fin.val h
    have he : (oM.access (Rect.unit (s := S4096x256) ![512 * o.val, 0] S512x256.size inb)).emb (blkIdx i) = i := by
      funext a
      refine Fin.ext ((ValueKit.view_emb_slice_whole_unit_val cc0_stg4_0 _ _ inb (blkIdx i) a).trans ?_)
      match a with
      | ⟨0, _⟩ => show 512 * o.val + (i 0).val % 512 = (i 0).val; omega
      | ⟨1, _⟩ => exact Nat.zero_add _
    conv_lhs => rw [← he]
    exact View.write_emb_of_mem _ _ (Finset.mem_univ _)
  · rename_i h
    refine View.write_of_not_mem _ _ _ fun hm => h ?_
    obtain ⟨x, -, hx⟩ := Finset.mem_map.mp hm
    have h0 := (ValueKit.view_emb_slice_whole_unit_val cc0_stg4_0 ![512 * o.val, 0] S512x256.size inb x 0)
    have hx0 : (i 0).val = 512 * o.val + (x 0).val := (congrArg Fin.val (congrFun hx.symm 0)).trans h0
    have hxl : (x 0).val < 512 := (x 0).isLt
    refine Fin.ext (show (i 0).val / 512 = o.val from ?_)
    omega

/-- What the wait on receive cell `d` takes, and what it leaves; the same for send cell `d`. -/
def recvRes (c : Dev nD) (d : Fin 7) : sProp 𝕄 := iprop(posR c d ∗ cred (tallyAt (recvCell c d) () N))
def recvDone (c : Dev nD) (d : Fin 7) : sProp 𝕄 := iprop(semVal (recvCell c d) 0 ∗ slotAny (F := F) c d)
def leftRes (c : Dev nD) (d : Fin 7) : sProp 𝕄 := iprop(posS c d ∗ cred (tallyAt (sendCell c d) () N))
def leftDone (c : Dev nD) (d : Fin 7) : sProp 𝕄 := iprop(semVal (sendCell c d) 0 ∗ xTok m ρ c d)

/-- What the copy to peer `pr d c` takes. -/
def sendRes (c : Dev nD) (d : Fin 7) : sProp 𝕄 :=
  iprop(posS (F := F) c d ∗ sndTok (F := F) c d ∗ xTok m ρ c d ∗ slotAny (F := F) (pr d c) d)

/-! ## The steps -/

section Steps

variable (K : Dev nD × CK → ℕ) (c : Dev nD) (d : Fin 7)

/-- The signal to peer `pr d c`: slot `d` of the own landing buffer goes with it. -/
theorem step_sig (n : Dev nD) (hn : n = pr d c) (k' : ℕ) (hk' : k' = 1) (O : CellTallies nD τ sig Unit) {α : Type} {Q : α → sProp 𝕄} {k : PUnit → CProg (F := F) α} :
    iprop(records m ρ K ∗ sigTok c d ∗ slotAny (F := F) c d ∗ ow c (O + tallyAt (barCell (pr d c)) () 1))
      ⊢ iprop((ow c O -∗ WP c (k ⟨⟩) Q) -∗ WP c (.op (.semSignal (n : Thread nD τ) barS k') k) Q) := by
  subst hn hk'
  unfold ow sigTok
  iintro ⟨#HR, Ht, Hs, ⟨%W, HO⟩⟩ Hk
  iapply (Rounds.wp_signal 𝒱₀ ER (exch m ρ) (c : Thread nD τ) none (dst := (pr d c : Thread nD τ)) (κ := K (pr d c, .inl ()))
      (d := d) (by rw [show ((pr d c : Thread nD τ), SemLoc.reg barS) = barCell (pr d c) from rfl, duties_kcell]; exact Finset.mem_univ _)
      (amount_kcell m ρ (pr d c) (.inl ()) d) () O rfl)
    $$ [HO Ht Hs]
  · isplitr; · iapply (inv_at m ρ K (pr d c, .inl ())); iexact HR
    isplitl [HO]; · iexact HO
    isplitl [Ht]; · iexact Ht
    isplitl [Hs]
    · rw [show ((pr d c : Thread nD τ), SemLoc.reg barS) = barCell (pr d c) from rfl, payload_kcell]; unfold payloadOf; rw [pr_pr]; iexact Hs
    · iapply (reached_at m ρ K (pr d c, .inl ())); iexact HR
  iintro HO
  iapply Hk
  iexists W; iexact HO

/-- The wait on the own barrier cell: every peer's slot comes with it, and the cell closes. -/
theorem step_bar (k' : ℕ) (hk' : k' = 7) {α : Type} {Q : α → sProp 𝕄} {k : PUnit → CProg (F := F) α} :
    iprop(records m ρ K ∗ levAts L lv ∗ cred (tallyAt (barCell c) () 7) ∗ atPos ER (barCell c) 0 ∅ 0 ∗ ow c (oweR c slots))
      ⊢ iprop(((ow c (oweR c slots) ∗ semVal (barCell c) 0 ∗ bigSep Finset.univ fun d => slotAny (F := F) (pr d c) d) -∗ WP c (k ⟨⟩) Q)
          -∗ WP c (.op (.semWait barS k') k) Q) := by
  subst hk'
  unfold ow
  iintro ⟨#HR, #Hlev, Hc, Hat, ⟨%W, HO⟩⟩ Hk
  iapply (Rounds.wp_wait_rest_token 𝒱₀ ER (exch m ρ) (c : Thread nD τ) none (κ := K (c, .inl ())) (sm := csem (.inl ()))
      (wpE_semWait_eq 𝒱₀ (c : Thread nD τ) none Set.univ) (Set.mem_univ _) () (O := oweR c slots) (W := W) (R := 0) (m := 0) (T := ∅)
      ((Nat.zero_add 7).trans (expect_bar m ρ c).symm)) $$ [Hc HO Hat]
  · isplitr; · iapply (inv_at m ρ K (c, .inl ())); iexact HR
    isplitl [Hc]; · iexact Hc
    isplitl [HO]; · iexact HO
    isplitr; · iapply (mayWait_bar (F := F) c); iexact Hlev
    iexact Hat
  iintro ⟨HO, Hat, -, Hpay⟩
  ihave Hp := (Entails.of_eq (rest_bar m ρ c)) $$ Hpay
  imod (Rounds.cell_close ER (exch m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexists _; iexact HO
  isplitl [Hz]; · iexact Hz
  iexact Hp

omit [FloatOps F] in
/-- The peer's slot after the copy holds the sender's block. -/
theorem sent (fd : Buf (Elt F) ((slotM d).view.loc (pr d c : Thread nD τ))) :
    ((slotM d).view.loc (pr d c : Thread nD τ) ↦[(slotM d).view.set]{fullShare} ((slotM d).view.write (Elt F) fd (xM.view.read (Elt F) (xstg m ρ c)) Finset.univ))
      ⊢ (slotGot m ρ (pr d c) d : sProp 𝕄) := by
  unfold slotGot slotPts
  iintro H
  iexists _
  isplitr
  rotate_left
  · iexact H
  ipureintro
  rw [pr_pr, View.read_write_univ]
  exact View.read_whole _ _

/-- The copy to peer `pr d c`. -/
theorem step_send (n : Dev nD) (hn : n = pr d c) (M : Memref sig .tc .vmem S512x4096 .i8) (hM : M = slotM d) (sS rS : DmaSem sig) (hsS : sS = sendS d) (hrS : rS = recvS d)
    (O : CellTallies nD τ sig Unit)
    {hsc : M.view.ref.isScScratch = false}
    {hsrc : xM.view.WordExact} {hdst : M.view.WordExact}
    {hsem : DmaTarget.Typed .vmem (.dma rS) (.remote (Dev.tc n : Thread nD τ) (M : Memref sig (Dev.tc n : Thread nD τ).2.kind .vmem S512x4096 .i8) (.dma sS) hsc)}
    {α : Type} {Q : α → sProp 𝕄} {k : PUnit → CProg (F := F) α} :
    iprop(records m ρ K ∗ sndTok c d ∗ xTok m ρ c d ∗ slotAny (F := F) (pr d c) d ∗ ow c (O + tallyAt (recvCell (pr d c) d) () N))
      ⊢ iprop(((cred (tallyAt (sendCell c d) () N) ∗ ow c O) -∗ WP c (k ⟨⟩) Q)
          -∗ WP c (.op (.enqueueDma xM (.remote (Dev.tc n : Thread nD τ) M (.dma sS) hsc) (.dma rS) hsrc hdst hsem) k) Q) := by
  subst hn hM hsS hrS
  unfold ow sndTok slotAny
  iintro ⟨#HR, ⟨Ht1, Ht2⟩, Hx, ⟨%fd, Hs⟩, ⟨%W, HO⟩⟩ Hk
  iapply (Rounds.wp_send_pointsTo 𝒱₀ ER (exch m ρ) (c : Thread nD τ) none (κ₁ := K (c, .inr (.inl d))) (κ₂ := K (pr d c, .inr (.inr d)))
    (c' := (pr d c : Thread nD τ)) (src := xM) (dst := slotM d) (sS := .dma (sendS d)) (sem := .dma (recvS d))
    (q := Transfers.shareTok fullShare 7 d) (fs := xstg m ρ c) (r₁ := 0) (r₂ := 0) (d₁ := 0) (d₂ := 0) (fd := fd)
    (by rw [show ((c : Thread nD τ), SemLoc.dma (sendS d)) = sendCell c d from rfl, duties_kcell]; exact Finset.mem_singleton_self _)
    (by rw [show ((pr d c : Thread nD τ), SemLoc.dma (recvS d)) = recvCell (pr d c) d from rfl, duties_kcell]; exact Finset.mem_singleton_self _)
    () () N rfl (amount_kcell m ρ c (.inr (.inl d)) 0) (amount_kcell m ρ (pr d c) (.inr (.inr d)) 0) O rfl (W := W)
    (by rw [show ((c : Thread nD τ), SemLoc.dma (sendS d)) = sendCell c d from rfl, payload_kcell]; exact BI.Entails.refl _)
    (by rw [show ((pr d c : Thread nD τ), SemLoc.dma (recvS d)) = recvCell (pr d c) d from rfl, payload_kcell]; exact sent m ρ c d fd))
    $$ [Hx Hs HO Ht1 Ht2]
  · isplitr; · iapply (inv_at m ρ K (c, .inr (.inl d))); iexact HR
    isplitr; · iapply (inv_at m ρ K (pr d c, .inr (.inr d))); iexact HR
    isplitl [Hx]; · unfold xTok; iexact Hx
    isplitl [Hs]; · unfold slotPts; iexact Hs
    isplitl [HO]; · iexact HO
    isplitl [Ht1]; · iexact Ht1
    isplitr; · iapply (reached_at m ρ K (c, .inr (.inl d))); iexact HR
    isplitl [Ht2]; · iexact Ht2
    iapply (reached_at m ρ K (pr d c, .inr (.inr d))); iexact HR
  iintro ⟨Hc, HO⟩
  iapply Hk
  isplitl [Hc]; · iexact Hc
  iexists W; iexact HO

/-- The copy to peer `pr d c`, with the position in the own send cell carried along: what is left is what the wait
for the copy to have left takes. -/
theorem step_put (n : Dev nD) (hn : n = pr d c) (M : Memref sig .tc .vmem S512x4096 .i8) (hM : M = slotM d) (sS rS : DmaSem sig) (hsS : sS = sendS d) (hrS : rS = recvS d)
    (O : CellTallies nD τ sig Unit)
    {hsc : M.view.ref.isScScratch = false}
    {hsrc : xM.view.WordExact} {hdst : M.view.WordExact}
    {hsem : DmaTarget.Typed .vmem (.dma rS) (.remote (Dev.tc n : Thread nD τ) (M : Memref sig (Dev.tc n : Thread nD τ).2.kind .vmem S512x4096 .i8) (.dma sS) hsc)}
    {α : Type} {Q : α → sProp 𝕄} {k : PUnit → CProg (F := F) α} :
    iprop(records m ρ K ∗ sendRes m ρ c d ∗ ow c (O + tallyAt (recvCell (pr d c) d) () N))
      ⊢ iprop(((leftRes (F := F) c d ∗ ow c O) -∗ WP c (k ⟨⟩) Q)
          -∗ WP c (.op (.enqueueDma xM (.remote (Dev.tc n : Thread nD τ) M (.dma sS) hsc) (.dma rS) hsrc hdst hsem) k) Q) := by
  unfold sendRes leftRes
  iintro ⟨#HR, ⟨Hp, Ht, Hx, Hs⟩, HO⟩ Hk
  iapply (step_send m ρ K c d n hn M hM sS rS hsS hrS O) $$ [Ht Hx Hs HO]
  · isplitr; · iexact HR
    isplitl [Ht]; · iexact Ht
    isplitl [Hx]; · iexact Hx
    isplitl [Hs] <;> iassumption
  iintro ⟨Hc, HO⟩
  iapply Hk
  isplitl [Hp Hc]
  · isplitl [Hp] <;> iassumption
  iexact HO

/-- A wait on one of the own transfer cells, nothing owed: its payload comes, and the cell closes. -/
theorem step_dma (e : Fin 7 ⊕ Fin 7) (qS : DmaSem sig) (hqS : SemLoc.dma qS = csem (.inr e))
    {sp sp' : Space} {M : Memref sig .tc sp S512x4096 .i8} {M' : Memref sig .tc sp' S512x4096 .i8} {h h'}
    (hN : M'.view.dmaCredit = N)
    {α : Type} {Q : α → sProp 𝕄} {k : PUnit → CProg (F := F) α} :
    iprop(records m ρ K ∗ cred (tallyAt (kcell (c, .inr e)) () N) ∗ atPos ER (kcell (c, .inr e)) 0 ∅ 0 ∗ ow c 0)
      ⊢ iprop(((ow c 0 ∗ semVal (kcell (c, .inr e)) 0 ∗ payloadOf m ρ c 0 (some (.inr e))) -∗ WP c (k ⟨⟩) Q)
          -∗ WP c (.op (.waitDma2 qS M M' h h') k) Q) := by
  unfold ow
  iintro ⟨#HR, Hc, Hat, ⟨%W, HO⟩⟩ Hk
  iapply (Rounds.wp_wait_rest_token 𝒱₀ ER (exch m ρ) (c : Thread nD τ) none (κ := K (c, .inr e)) (k' := N) (sm := csem (.inr e))
      (fun Q' => by rw [wpE_waitDma2_eq 𝒱₀ (c : Thread nD τ) none Set.univ, hqS, hN]) (Set.mem_univ _) () (O := 0) (W := W) (R := 0) (m := 0) (T := ∅)
      ((Nat.zero_add N).trans (expect_dma m ρ c e).symm)) $$ [Hc HO Hat]
  · isplitr; · iapply (inv_at m ρ K (c, .inr e)); iexact HR
    isplitl [Hc]; · iexact Hc
    isplitl [HO]; · iexact HO
    isplitr; · rw [MayWait_zero]; iempintro
    iexact Hat
  iintro ⟨HO, Hat, -, Hpay⟩
  ihave Hp := (Entails.of_eq (rest_dma m ρ c e)) $$ Hpay
  imod (Rounds.cell_close ER (exch m ρ) (Set.mem_univ (K (c, .inr e))) (fun h => h) (R := 0 + 1) (duties_later m ρ (kcell (c, .inr e)))) $$ [Hat] with Hz
  · isplitr; · iapply (inv_at m ρ K (c, .inr e)); iexact HR
    iexact Hat
  iapply Hk
  isplitl [HO]; · iexists _; iexact HO
  isplitl [Hz]; · iexact Hz
  iexact Hp

/-- The wait for the peer's block, and its load: what it loads, seen as a matrix, is the block; the slot is kept. -/
theorem step_recv (qS : DmaSem sig) (hqS : SemLoc.dma qS = csem (.inr (.inr d)))
    (M M' : Memref sig .tc .vmem S512x4096 .i8) (hM : M' = slotM d) {h h'}
    (off : Fin 3 → ℕ) (hoff : off = ![d.val, 0, 0]) {inb : ∀ a, off a + S1x512x4096.size a ≤ S7x512x4096.size a}
    {hl : scrM.view.LoadsAt (Rect.unit (s := S7x512x4096) off S1x512x4096.size inb).toLoadRect}
    {α : Type} {Q : α → sProp 𝕄} {k : Vec F S1x512x4096 .i8 → CProg (F := F) α} :
    iprop(records m ρ K ∗ recvRes c d ∗ ow c 0)
      ⊢ iprop((∀ v : Vec F S1x512x4096 .i8, ⌜shapeCast S512x4096 v shapeCasts_S1x512x4096_S512x4096 = xstg m ρ (pr d c)⌝
            -∗ (recvDone (F := F) c d ∗ ow c 0) -∗ WP c (k v) Q)
          -∗ WP c (.op (.waitDma2 qS M M' h h') fun _ => .op (.load scrM (Rect.unit (s := S7x512x4096) off S1x512x4096.size inb).toLoadRect hl) k) Q) := by
  subst hoff hM
  unfold recvRes posR
  iintro ⟨#HR, ⟨Hat, Hc⟩, HO⟩ Hk
  iapply (step_dma m ρ K c (.inr d) qS hqS (M := M) (M' := slotM d) rfl) $$ [Hat Hc HO]
  · isplitr; · iexact HR
    isplitl [Hc]; · iexact Hc
    isplitl [Hat]; · iexact Hat
    iexact HO
  unfold payloadOf slotGot slotPts
  iintro ⟨HO, Hz, ⟨%f, %hf, Hs⟩⟩
  iapply (wp_load_rect 𝒱₀ (c : Thread nD τ) none Set.univ (m := scrM) (r := slotR d) (S := (slotM d).view.set)
    (View.set_reshape (scrM.view.slice (slotR d)) _).symm.subset) $$ Hs
  iintro Hs
  iapply Hk $$ [] [HO Hz Hs]
  · ipureintro; exact hf
  unfold recvDone slotAny slotPts
  isplitl [Hz Hs]
  · isplitl [Hz]; · iexact Hz
    iexists f; iexact Hs
  iexact HO

/-- The wait for the own copy to have left: its read share comes back. -/
theorem step_left (qS : DmaSem sig) (hqS : SemLoc.dma qS = csem (.inr (.inl d)))
    (M : Memref sig .tc .vmem S512x4096 .i8) {h h'}
    {α : Type} {Q : α → sProp 𝕄} {k : PUnit → CProg (F := F) α} :
    iprop(records m ρ K ∗ leftRes (F := F) c d ∗ ow c 0)
      ⊢ iprop(((leftDone m ρ c d ∗ ow c 0) -∗ WP c (k ⟨⟩) Q) -∗ WP c (.op (.waitDma2 qS M xM h h') k) Q) := by
  unfold leftRes posS
  iintro ⟨#HR, ⟨Hat, Hc⟩, HO⟩ Hk
  iapply (step_dma m ρ K c (.inl d) qS hqS (M := M) (M' := xM) rfl) $$ [Hat Hc HO]
  · isplitr; · iexact HR
    isplitl [Hc]; · iexact Hc
    isplitl [Hat]; · iexact Hat
    iexact HO
  unfold payloadOf
  iintro ⟨HO, Hz, Hx⟩
  iapply Hk
  unfold leftDone
  isplitl [Hz Hx]
  · isplitl [Hz] <;> iassumption
  iexact HO

omit [FloatOps F] in
theorem hz2 : (![0, 0] : Fin 2 → Nat) = fun _ => 0 := funext fun a => by fin_cases a <;> rfl

/-- The load of the device's block of `w`. -/
theorem step_w {inb : ∀ a, (![0, 0] : Fin 2 → Nat) a + S4096x256.size a ≤ S4096x256.size a}
    {hl : wM.view.LoadsAt (Rect.unit (s := S4096x256) ![0, 0] S4096x256.size inb).toLoadRect}
    {α : Type} {Q : α → sProp 𝕄} {k : Vec F S4096x256 .i8 → CProg (F := F) α} :
    wPts m ρ c ⊢ iprop((wPts m ρ c -∗ WP c (k (wstg m ρ c)) Q)
      -∗ WP c (.op (.load wM (Rect.unit (s := S4096x256) ![0, 0] S4096x256.size inb).toLoadRect hl) k) Q) := by
  unfold wPts
  iintro Hw Hk
  iapply (wp_load 𝒱₀ (c : Thread nD τ) none Set.univ (m := wM) (Finset.subset_univ _)) $$ Hw
  iintro Hw
  rw [show wM.view.readAt (Elt F) (Rect.unit (s := S4096x256) ![0, 0] S4096x256.size inb).toLoadRect (wstg m ρ c) = wstg m ρ c
    from Memref.readAt_unit_zero (Elt F) cc0_stg1_0 hz2 _ _]
  iapply Hk; iexact Hw

/-- The load of the device's own block of `x`, through the share it kept. -/
theorem step_x {inb : ∀ a, (![0, 0] : Fin 2 → Nat) a + S512x4096.size a ≤ S512x4096.size a}
    {hl : xM.view.LoadsAt (Rect.unit (s := S512x4096) ![0, 0] S512x4096.size inb).toLoadRect}
    {α : Type} {Q : α → sProp 𝕄} {k : Vec F S512x4096 .i8 → CProg (F := F) α} :
    xKeep m ρ c ⊢ iprop((xKeep m ρ c -∗ WP c (k (xstg m ρ c)) Q)
      -∗ WP c (.op (.load xM (Rect.unit (s := S512x4096) ![0, 0] S512x4096.size inb).toLoadRect hl) k) Q) := by
  unfold xKeep
  iintro Hx Hk
  iapply (wp_load 𝒱₀ (c : Thread nD τ) none Set.univ (m := xM) (S := xM.view.set) (Finset.map_subset_map.mpr (Finset.subset_univ _))) $$ Hx
  iintro Hx
  rw [show xM.view.readAt (Elt F) (Rect.unit (s := S512x4096) ![0, 0] S512x4096.size inb).toLoadRect (xstg m ρ c) = xstg m ρ c
    from Memref.readAt_unit_zero (Elt F) cc0_stg0_0 hz2 _ _]
  iapply Hk; iexact Hx

/-- The store of a block of rows, after a load of what was there that nothing uses. -/
theorem step_out (o : Dev nD) (S : Finset (Dev nD)) (off : Fin 2 → ℕ) (hoff : off = ![512 * o.val, 0])
    {inb inb' : ∀ a, off a + S512x256.size a ≤ S4096x256.size a} (w : FVec F S512x256 .f32) (hw : w = rows m ρ c o)
    {hl : oM.view.LoadsAt (Rect.unit (s := S4096x256) off S512x256.size inb).toLoadRect}
    {hx : (oM.access (Rect.unit (s := S4096x256) off S512x256.size inb')).Stores Finset.univ}
    {hm : Finset.univ = Finset.univ ∨ ∀ a, (Rect.unit (s := S4096x256) off S512x256.size inb').stride a = 1}
    {α : Type} {Q : α → sProp 𝕄} {k : PUnit → CProg (F := F) α} :
    outPts m ρ c S ⊢ iprop((outPts m ρ c (insert o S) -∗ WP c (k ⟨⟩) Q)
      -∗ WP c (.op (.load oM (Rect.unit (s := S4096x256) off S512x256.size inb).toLoadRect hl) fun _ =>
          .op (.store oM (Rect.unit (s := S4096x256) off S512x256.size inb') w Finset.univ hx hm) k) Q) := by
  subst hoff hw
  unfold outPts
  iintro ⟨%f, %hf, Ho⟩ Hk
  iapply (wp_load 𝒱₀ (c : Thread nD τ) none Set.univ (m := oM) (Finset.subset_univ _)) $$ Ho
  iintro Ho
  iapply (wp_store 𝒱₀ (c : Thread nD τ) none Set.univ (m := oM) (r := Rect.unit (s := S4096x256) ![512 * o.val, 0] S512x256.size inb') (Mk := Finset.univ)
    (Finset.subset_univ _)) $$ Ho
  iintro Ho
  iapply Hk
  iexists _
  isplitr
  rotate_left
  · iexact Ho
  ipureintro
  intro i hi
  refine (write_rows o inb' f (rows m ρ c o) i).trans ?_
  by_cases h : rowDev i = o
  · rw [if_pos h]; exact congrArg (fun b => rows m ρ c b (blkIdx i)) h.symm
  · rw [if_neg h]; exact hf i ((Finset.mem_insert.mp hi).resolve_left h)

/-- The end of a program. -/
theorem step_ret {α : Type} {Q : α → sProp 𝕄} {a : α} : Q a ⊢ WP c (Prog.ret a : CProg (F := F) α) Q := by
  unfold WP
  rw [wp_ret]
  iintro H
  imodintro; iexact H

/-- Programs in sequence. -/
theorem WP_bind {α β : Type} (p : CProg (F := F) α) (k : α → CProg (F := F) β) (Q : β → sProp 𝕄) :
    WP c (p >>= k) Q = WP c p fun a => WP c (k a) Q := wp_bind _ _ _ p k Q

end Steps

end Cert.Exchange

end
-- ==== Proof.Parts.lean ====
/-
# The body, part by part

The printed body is a chain of parts. One statement per part that touches memory: what it takes, what it leaves, and
the values it hands on. The proofs are runs of the step rules.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem off2_eq (c : Dev nD) : k0_off2 c = ![512 * (pr 0 c).val, 0] := by revert c; decide +kernel
theorem off3_eq (c : Dev nD) : k0_off3 c = ![512 * (pr 1 c).val, 0] := by revert c; decide +kernel
theorem off4_eq (c : Dev nD) : k0_off4 c = ![512 * (pr 2 c).val, 0] := by revert c; decide +kernel
theorem off5_eq (c : Dev nD) : k0_off5 c = ![512 * (pr 3 c).val, 0] := by revert c; decide +kernel
theorem off6_eq (c : Dev nD) : k0_off6 c = ![512 * (pr 4 c).val, 0] := by revert c; decide +kernel
theorem off7_eq (c : Dev nD) : k0_off7 c = ![512 * (pr 5 c).val, 0] := by revert c; decide +kernel
theorem off8_eq (c : Dev nD) : k0_off8 c = ![512 * (pr 6 c).val, 0] := by revert c; decide +kernel

abbrev sxM : Memref sig .tc .smem S1 .f32 := Memref.whole cc0_stg2_0
abbrev swM : Memref sig .tc .smem S1 .f32 := Memref.whole cc0_stg3_0

/-- The two staged scale factors. -/
def sPts (c : Dev nD) : sProp 𝕄 :=
  iprop((((c : Thread nD τ).loc cc0_stg2_0) ↦{fullShare} sxstg m ρ c) ∗ (((c : Thread nD τ).loc cc0_stg3_0) ↦{fullShare} swstg m ρ c))

/-- The scalar loads of the two scale factors: their product is the scale. -/
theorem step_scales (c : Dev nD) {inb : ∀ a, (![0] : Fin 1 → Nat) a + S1.size a ≤ S1.size a} {hq hq'}
    {α : Type} {Q : α → sProp 𝕄} {k : F .f32 → F .f32 → CProg (F := F) α} :
    sPts m ρ c ⊢ iprop((sPts m ρ c -∗ WP c (k (sxstg m ρ c (Shape.Idx.first (numel1_S1.symm ▸ Nat.one_pos))) (swstg m ρ c (Shape.Idx.first (numel1_S1.symm ▸ Nat.one_pos)))) Q)
      -∗ WP c (smemLoadElt sxM (Rect.unit (s := S1) ![0] S1.size inb) hq (Shape.Idx.first (numel1_S1.symm ▸ Nat.one_pos)) fun a =>
          smemLoadElt swM (Rect.unit (s := S1) ![0] S1.size inb) hq' (Shape.Idx.first (numel1_S1.symm ▸ Nat.one_pos)) fun b => k a b) Q) := by
  have h : ∀ g : S1.Idx → Elt F .f32, (sxM.access (Rect.unit (s := S1) ![0] S1.size inb)).read (Elt F) g = g :=
    fun g => Memref.readAt_unit_zero (Elt F) cc0_stg2_0 (funext fun a => by fin_cases a; rfl) _ _
  have h' : ∀ g : S1.Idx → Elt F .f32, (swM.access (Rect.unit (s := S1) ![0] S1.size inb)).read (Elt F) g = g :=
    fun g => Memref.readAt_unit_zero (Elt F) cc0_stg3_0 (funext fun a => by fin_cases a; rfl) _ _
  unfold sPts
  iintro ⟨Hx, Hw⟩ Hk
  iapply (wp_smemLoadElt 𝒱₀ (c : Thread nD τ) none Set.univ (m := sxM) (r := Rect.unit (s := S1) ![0] S1.size inb)
    (S := Finset.univ) (Finset.subset_univ _)) $$ Hx
  iintro Hx
  iapply (wp_smemLoadElt 𝒱₀ (c : Thread nD τ) none Set.univ (m := swM) (r := Rect.unit (s := S1) ![0] S1.size inb)
    (S := Finset.univ) (Finset.subset_univ _)) $$ Hw
  iintro Hw
  rw [h, h']
  iapply Hk
  isplitl [Hx] <;> iassumption

/-! What each part computes from a peer's block is the rows of that peer: the payloads are the same expression, cut at
different places. -/

section Rows
variable (c b : Dev nD) (v : Vec F S1x512x4096 .i8) (h : shapeCast S512x4096 v shapeCasts_S1x512x4096_S512x4096 = xstg m ρ b)
include h
theorem rows_of_6 : k0_pay6 (k0_pay4 (scl m ρ c) v (wstg m ρ c)) (Scalar.ofBits .f32 0x42700000#32) (k0_pay5 (scl m ρ c) v (wstg m ρ c)) = rows m ρ c b := by
  unfold rows; rw [← h]; rfl
theorem rows_of_7 : k0_pay7 (scl m ρ c) v (wstg m ρ c) = rows m ρ c b := by unfold rows; rw [← h]; rfl
theorem rows_of_8 : k0_pay8 (scl m ρ c) v (wstg m ρ c) = rows m ρ c b := by unfold rows; rw [← h]; rfl
theorem rows_of_9 : k0_pay9 (scl m ρ c) v (wstg m ρ c) = rows m ρ c b := by unfold rows; rw [← h]; rfl
theorem rows_of_11 : k0_pay11 (scl m ρ c) (k0_pay10 v) (wstg m ρ c) = rows m ρ c b := by unfold rows; rw [← h]; rfl
theorem rows_of_14 : k0_pay14 (k0_pay12 (scl m ρ c) v (wstg m ρ c)) (Scalar.ofBits .f32 0x42700000#32) (k0_pay13 (scl m ρ c) v (wstg m ρ c)) = rows m ρ c b := by
  unfold rows; rw [← h]; rfl
theorem rows_of_15 : k0_pay15 (scl m ρ c) v (wstg m ρ c) = rows m ρ c b := by unfold rows; rw [← h]; rfl
end Rows

section Parts

variable (K : Dev nD × CK → ℕ) (c : Dev nD)
variable (h0 : xM.IsWhole) (h1 : wM.IsWhole) (h2 : sxM.IsWhole) (h3 : swM.IsWhole) (h4 : oM.IsWhole) (h5 : scrM.IsWhole)

theorem part1_spec {Q} :
    iprop(∀ a1 a2 a3 a4 a5 a6 a7 a8, Q ⟨c, a1, a2, a3, a4, a5, a6, a7, a8⟩)
      ⊢ WP c (k0_part1 (F := F) xM h0 wM h1 sxM h2 swM h3 oM h4 scrM h5 cc0_scratch1 cc0_scratch2) Q := by
  rw [k0_part1_eq_skeleton]
  unfold k0_part1_skel
  simp only [Prog.lift, Prog.bind_op, Prog.bind_ret, Prog.pure_eq_ret, wp_deviceId]
  iintro H
  iapply step_ret
  iapply H

theorem part2_spec (u1 u2 u3 u4 u5) {Q} :
    iprop(∀ a1 a2 a3 a4 a5 a6 a7, Q ⟨a1, a2, a3, a4, a5, a6, a7⟩)
      ⊢ WP c (k0_part2 (F := F) xM h0 wM h1 sxM h2 swM h3 oM h4 scrM h5 cc0_scratch1 cc0_scratch2 u1 u2 u3 u4 u5) Q := by
  rw [k0_part2_eq_skeleton]
  unfold k0_part2_skel
  simp only [Prog.lift, Prog.bind_op, Prog.bind_ret, Prog.pure_eq_ret]
  iintro H
  iapply step_ret
  iapply H

/-- Signal the seven peers; wait for their seven signals. -/
theorem part3_spec (u1 u2 u3 u4 u5 u6 u7 u8 u9) {Q} :
    iprop(records m ρ K ∗ levAts L lv ∗ cred (tallyAt (barCell c) () 7) ∗ atPos ER (barCell c) 0 ∅ 0
        ∗ (bigSep Finset.univ fun d => iprop(sigTok (F := F) c d ∗ slotAny (F := F) c d)) ∗ ow c (O₀ c))
      ⊢ iprop((∀ a, (ow c (oweR c slots) ∗ semVal (barCell c) 0 ∗ bigSep Finset.univ fun d => slotAny (F := F) (pr d c) d) -∗ Q a)
          -∗ WP c (k0_part3 (F := F) xM h0 wM h1 sxM h2 swM h3 oM h4 scrM h5 cc0_scratch1 cc0_scratch2 c u1 u2 u3 u4 u5 u6 u7 u8 u9) Q) := by
  rw [k0_part3_eq_skeleton]
  unfold k0_part3_skel
  simp only [semSignalWord, semWaitWord, Prog.lift, Prog.bind_op, Prog.bind_ret, Prog.pure_eq_ret]
  rw [bigSep_fin7]
  iintro ⟨#HR, #Hlev, Hc, Hat, ⟨⟨T0, S0⟩, ⟨T1, S1⟩, ⟨T2, S2⟩, ⟨T3, S3⟩, ⟨T4, S4⟩, ⟨T5, S5⟩, ⟨T6, S6⟩⟩, HO⟩ Hk
  iapply (step_sig m ρ K c 0 _ (dev1_eq c) _ rfl (oweB c [1, 2, 3, 4, 5, 6])) $$ [T0 S0 HO]
  · isplitr; · iexact HR
    isplitl [T0]; · iexact T0
    isplitl [S0]; · iexact S0
    iexact HO
  iintro HO
  iapply (step_sig m ρ K c 1 _ (dev2_eq c) _ rfl (oweB c [2, 3, 4, 5, 6])) $$ [T1 S1 HO]
  · isplitr; · iexact HR
    isplitl [T1]; · iexact T1
    isplitl [S1]; · iexact S1
    iexact HO
  iintro HO
  iapply (step_sig m ρ K c 2 _ (dev3_eq c) _ rfl (oweB c [3, 4, 5, 6])) $$ [T2 S2 HO]
  · isplitr; · iexact HR
    isplitl [T2]; · iexact T2
    isplitl [S2]; · iexact S2
    iexact HO
  iintro HO
  iapply (step_sig m ρ K c 3 _ (dev4_eq c) _ rfl (oweB c [4, 5, 6])) $$ [T3 S3 HO]
  · isplitr; · iexact HR
    isplitl [T3]; · iexact T3
    isplitl [S3]; · iexact S3
    iexact HO
  iintro HO
  iapply (step_sig m ρ K c 4 _ (dev5_eq c) _ rfl (oweB c [5, 6])) $$ [T4 S4 HO]
  · isplitr; · iexact HR
    isplitl [T4]; · iexact T4
    isplitl [S4]; · iexact S4
    iexact HO
  iintro HO
  iapply (step_sig m ρ K c 5 _ (dev6_eq c) _ rfl (oweB c [6])) $$ [T5 S5 HO]
  · isplitr; · iexact HR
    isplitl [T5]; · iexact T5
    isplitl [S5]; · iexact S5
    iexact HO
  iintro HO
  iapply (step_sig m ρ K c 6 _ (dev7_eq c) _ rfl (oweB c [])) $$ [T6 S6 HO]
  · isplitr; · iexact HR
    isplitl [T6]; · iexact T6
    isplitl [S6]; · iexact S6
    iexact HO
  iintro HO
  iapply (step_bar m ρ K c _ rfl) $$ [Hc Hat HO]
  · isplitr; · iexact HR
    isplitr; · iexact Hlev
    isplitl [Hc]; · iexact Hc
    isplitl [Hat]; · iexact Hat
    iexact HO
  iintro HP
  iapply step_ret
  iapply Hk $$ HP

/-- The copies to the first three peers. -/
theorem part4_spec (u1 u2 u3 u4) {Q} :
    iprop(records m ρ K ∗ sendRes m ρ c 0 ∗ sendRes m ρ c 1 ∗ sendRes m ρ c 2 ∗ ow c (oweR c slots))
      ⊢ iprop(((leftRes (F := F) c 0 ∗ leftRes (F := F) c 1 ∗ leftRes (F := F) c 2 ∗ ow c (oweR c [3, 4, 5, 6])) -∗ Q ⟨⟩)
          -∗ WP c (k0_part4 (F := F) xM h0 wM h1 sxM h2 swM h3 oM h4 scrM h5 cc0_scratch1 cc0_scratch2 c u1 u2 u3 u4) Q) := by
  rw [k0_part4_eq_skeleton]
  unfold k0_part4_skel
  simp only [Prog.lift, Prog.bind_op, Prog.bind_ret, Prog.pure_eq_ret]
  iintro ⟨#HR, S0, S1, S2, HO⟩ Hk
  iapply (step_put m ρ K c 0 _ (dev8_eq c) _ rfl _ _ rfl rfl (oweR c [1, 2, 3, 4, 5, 6])) $$ [S0 HO]
  · isplitr; · iexact HR
    isplitl [S0]; · iexact S0
    iexact HO
  iintro ⟨L0, HO⟩
  iapply (step_put m ρ K c 1 _ (dev9_eq c) _ rfl _ _ rfl rfl (oweR c [2, 3, 4, 5, 6])) $$ [S1 HO]
  · isplitr; · iexact HR
    isplitl [S1]; · iexact S1
    iexact HO
  iintro ⟨L1, HO⟩
  iapply (step_put m ρ K c 2 _ (dev10_eq c) _ rfl _ _ rfl rfl (oweR c [3, 4, 5, 6])) $$ [S2 HO]
  · isplitr; · iexact HR
    isplitl [S2]; · iexact S2
    iexact HO
  iintro ⟨L2, HO⟩
  iapply step_ret
  iapply Hk
  isplitl [L0]; · iexact L0
  isplitl [L1]; · iexact L1
  isplitl [L2] <;> iassumption

/-- The copies to the last four peers; the two scale factors and the own block of `x` are read. -/
theorem part5_spec (u1 u2 u3) {Q} :
    iprop(records m ρ K ∗ sendRes m ρ c 3 ∗ sendRes m ρ c 4 ∗ sendRes m ρ c 5 ∗ sendRes m ρ c 6 ∗ ow c (oweR c [3, 4, 5, 6])
        ∗ sPts m ρ c ∗ xKeep m ρ c)
      ⊢ iprop(((leftRes (F := F) c 3 ∗ leftRes (F := F) c 4 ∗ leftRes (F := F) c 5 ∗ leftRes (F := F) c 6 ∗ ow c 0 ∗ sPts m ρ c ∗ xKeep m ρ c)
            -∗ Q ⟨scl m ρ c, xstg m ρ c⟩)
          -∗ WP c (k0_part5 (F := F) xM h0 wM h1 sxM h2 swM h3 oM h4 scrM h5 cc0_scratch1 cc0_scratch2 c u1 u2 u3) Q) := by
  rw [k0_part5_eq_skeleton]
  unfold k0_part5_skel scl
  simp only [Prog.lift, Prog.bind_op, Prog.bind_ret, Prog.pure_eq_ret, smemLoad, smemLoadElt_bind]
  iintro ⟨#HR, S3, S4, S5, S6, HO, Hs, Hx⟩ Hk
  iapply (step_put m ρ K c 3 _ (dev11_eq c) _ rfl _ _ rfl rfl (oweR c [4, 5, 6])) $$ [S3 HO]
  · isplitr; · iexact HR
    isplitl [S3]; · iexact S3
    iexact HO
  iintro ⟨L3, HO⟩
  iapply (step_put m ρ K c 4 _ (dev12_eq c) _ rfl _ _ rfl rfl (oweR c [5, 6])) $$ [S4 HO]
  · isplitr; · iexact HR
    isplitl [S4]; · iexact S4
    iexact HO
  iintro ⟨L4, HO⟩
  iapply (step_put m ρ K c 5 _ (dev13_eq c) _ rfl _ _ rfl rfl (oweR c [6])) $$ [S5 HO]
  · isplitr; · iexact HR
    isplitl [S5]; · iexact S5
    iexact HO
  iintro ⟨L5, HO⟩
  iapply (step_put m ρ K c 6 _ (dev14_eq c) _ rfl _ _ rfl rfl (oweR c [])) $$ [S6 HO]
  · isplitr; · iexact HR
    isplitl [S6]; · iexact S6
    iexact HO
  iintro ⟨L6, HO⟩
  iapply (step_scales m ρ c) $$ Hs
  iintro Hs
  iapply (step_x m ρ c) $$ Hx
  iintro Hx
  iapply step_ret
  rw [show k0_pay2 (xstg m ρ c) = xstg m ρ c from shapeCast_self _ _]
  iapply Hk
  isplitl [L3]; · iexact L3
  isplitl [L4]; · iexact L4
  isplitl [L5]; · iexact L5
  isplitl [L6]; · iexact L6
  isplitl [HO]; · iexact HO
  isplitl [Hs] <;> iassumption

/-- The own rows are computed and stored; the first peer's block arrives, and its rows are computed up to the clamp from below. -/
theorem part6_spec (S : Finset (Dev nD)) (u1 u2) {Q} :
    iprop(records m ρ K ∗ recvRes (F := F) c 0 ∗ ow c 0 ∗ wPts m ρ c ∗ outPts m ρ c S)
      ⊢ iprop((∀ v k v', ⌜k0_pay6 v k v' = rows m ρ c (pr 0 c)⌝
            -∗ (recvDone (F := F) c 0 ∗ ow c 0 ∗ wPts m ρ c ∗ outPts m ρ c (insert c S)) -∗ Q ⟨v, k, v'⟩)
          -∗ WP c (k0_part6 (F := F) xM h0 wM h1 sxM h2 swM h3 oM h4 scrM h5 cc0_scratch1 cc0_scratch2 c u1 u2 (scl m ρ c) (xstg m ρ c)) Q) := by
  rw [k0_part6_eq_skeleton]
  unfold k0_part6_skel
  simp only [Prog.lift, Prog.bind_op, Prog.bind_ret, Prog.pure_eq_ret]
  iintro ⟨#HR, R, HO, Hw, Ho⟩ Hk
  iapply (step_w m ρ c) $$ Hw
  iintro Hw
  iapply (step_out m ρ c c S _ (k0_off1_eq c) _ rfl) $$ Ho
  iintro Ho
  iapply (step_recv m ρ K c 0 _ rfl _ _ rfl _ rfl) $$ [R HO]
  · isplitr; · iexact HR
    isplitl [R] <;> iassumption
  iintro %v %hv ⟨D, HO⟩
  iapply (step_w m ρ c) $$ Hw
  iintro Hw
  iapply step_ret
  iapply Hk $$ []
  · ipureintro; exact rows_of_6 m ρ c _ v hv
  isplitl [D]; · iexact D
  isplitl [HO]; · iexact HO
  isplitl [Hw] <;> iassumption

/-- The first peer's rows are stored; the second's are computed. -/
theorem part7_spec (S : Finset (Dev nD)) (u1 u2) (v k v') (hv : k0_pay6 v k v' = rows m ρ c (pr 0 c)) {Q} :
    iprop(records m ρ K ∗ recvRes (F := F) c 1 ∗ ow c 0 ∗ wPts m ρ c ∗ outPts m ρ c S)
      ⊢ iprop((∀ a, (recvDone (F := F) c 1 ∗ ow c 0 ∗ wPts m ρ c ∗ outPts m ρ c (insert (pr 0 c) S)) -∗ Q ⟨rows m ρ c (pr 1 c), a⟩)
          -∗ WP c (k0_part7 (F := F) xM h0 wM h1 sxM h2 swM h3 oM h4 scrM h5 cc0_scratch1 cc0_scratch2 c u1 u2 (scl m ρ c) v k v') Q) := by
  rw [k0_part7_eq_skeleton]
  unfold k0_part7_skel
  simp only [Prog.lift, Prog.bind_op, Prog.bind_ret, Prog.pure_eq_ret]
  iintro ⟨#HR, R, HO, Hw, Ho⟩ Hk
  iapply (step_out m ρ c (pr 0 c) S _ (off2_eq c) _ hv) $$ Ho
  iintro Ho
  iapply (step_recv m ρ K c 1 _ rfl _ _ rfl _ rfl) $$ [R HO]
  · isplitr; · iexact HR
    isplitl [R] <;> iassumption
  iintro %v %hv ⟨D, HO⟩
  iapply (step_w m ρ c) $$ Hw
  iintro Hw
  iapply step_ret
  rw [rows_of_7 m ρ c _ v hv]
  iapply Hk
  isplitl [D]; · iexact D
  isplitl [HO]; · iexact HO
  isplitl [Hw] <;> iassumption

/-- The second peer's rows are stored; the third's are computed and stored. -/
theorem part8_spec (S : Finset (Dev nD)) (u1 u2 u3) {Q} :
    iprop(records m ρ K ∗ recvRes (F := F) c 2 ∗ ow c 0 ∗ wPts m ρ c ∗ outPts m ρ c S)
      ⊢ iprop(((recvDone (F := F) c 2 ∗ ow c 0 ∗ wPts m ρ c ∗ outPts m ρ c (insert (pr 2 c) (insert (pr 1 c) S))) -∗ Q ⟨⟩)
          -∗ WP c (k0_part8 (F := F) xM h0 wM h1 sxM h2 swM h3 oM h4 scrM h5 cc0_scratch1 cc0_scratch2 c u1 u2 (scl m ρ c) (rows m ρ c (pr 1 c)) u3) Q) := by
  rw [k0_part8_eq_skeleton]
  unfold k0_part8_skel
  simp only [Prog.lift, Prog.bind_op, Prog.bind_ret, Prog.pure_eq_ret]
  iintro ⟨#HR, R, HO, Hw, Ho⟩ Hk
  iapply (step_out m ρ c (pr 1 c) S _ (off3_eq c) _ rfl) $$ Ho
  iintro Ho
  iapply (step_recv m ρ K c 2 _ rfl _ _ rfl _ rfl) $$ [R HO]
  · isplitr; · iexact HR
    isplitl [R] <;> iassumption
  iintro %v %hv ⟨D, HO⟩
  iapply (step_w m ρ c) $$ Hw
  iintro Hw
  iapply (step_out m ρ c (pr 2 c) _ _ (off4_eq c) _ (rows_of_8 m ρ c _ v hv)) $$ Ho
  iintro Ho
  iapply step_ret
  iapply Hk
  isplitl [D]; · iexact D
  isplitl [HO]; · iexact HO
  isplitl [Hw] <;> iassumption

/-- The fourth peer's rows are computed and stored; the fifth's block arrives. -/
theorem part9_spec (S : Finset (Dev nD)) (u1 u2) {Q} :
    iprop(records m ρ K ∗ recvRes (F := F) c 3 ∗ recvRes (F := F) c 4 ∗ ow c 0 ∗ wPts m ρ c ∗ outPts m ρ c S)
      ⊢ iprop((∀ v, ⌜k0_pay11 (scl m ρ c) v (wstg m ρ c) = rows m ρ c (pr 4 c)⌝
            -∗ (recvDone (F := F) c 3 ∗ recvDone (F := F) c 4 ∗ ow c 0 ∗ wPts m ρ c ∗ outPts m ρ c (insert (pr 3 c) S)) -∗ Q v)
          -∗ WP c (k0_part9 (F := F) xM h0 wM h1 sxM h2 swM h3 oM h4 scrM h5 cc0_scratch1 cc0_scratch2 c u1 u2 (scl m ρ c)) Q) := by
  rw [k0_part9_eq_skeleton]
  unfold k0_part9_skel
  simp only [Prog.lift, Prog.bind_op, Prog.bind_ret, Prog.pure_eq_ret]
  iintro ⟨#HR, R3, R4, HO, Hw, Ho⟩ Hk
  iapply (step_recv m ρ K c 3 _ rfl _ _ rfl _ rfl) $$ [R3 HO]
  · isplitr; · iexact HR
    isplitl [R3] <;> iassumption
  iintro %v %hv ⟨D3, HO⟩
  iapply (step_w m ρ c) $$ Hw
  iintro Hw
  iapply (step_out m ρ c (pr 3 c) S _ (off5_eq c) _ (rows_of_9 m ρ c _ v hv)) $$ Ho
  iintro Ho
  iapply (step_recv m ρ K c 4 _ rfl _ _ rfl _ rfl) $$ [R4 HO]
  · isplitr; · iexact HR
    isplitl [R4] <;> iassumption
  iintro %v' %hv' ⟨D4, HO⟩
  iapply step_ret
  iapply Hk $$ []
  · ipureintro; exact rows_of_11 m ρ c _ v' hv'
  isplitl [D3]; · iexact D3
  isplitl [D4]; · iexact D4
  isplitl [HO]; · iexact HO
  isplitl [Hw] <;> iassumption

/-- The fifth peer's rows are computed and stored; the sixth's block arrives, its rows computed up to the clamp from below. -/
theorem part10_spec (S : Finset (Dev nD)) (u1 u2) (v) (hv : k0_pay11 (scl m ρ c) v (wstg m ρ c) = rows m ρ c (pr 4 c)) {Q} :
    iprop(records m ρ K ∗ recvRes (F := F) c 5 ∗ ow c 0 ∗ wPts m ρ c ∗ outPts m ρ c S)
      ⊢ iprop((∀ v k v', ⌜k0_pay14 v k v' = rows m ρ c (pr 5 c)⌝
            -∗ (recvDone (F := F) c 5 ∗ ow c 0 ∗ wPts m ρ c ∗ outPts m ρ c (insert (pr 4 c) S)) -∗ Q ⟨v, k, v'⟩)
          -∗ WP c (k0_part10 (F := F) xM h0 wM h1 sxM h2 swM h3 oM h4 scrM h5 cc0_scratch1 cc0_scratch2 c u1 u2 (scl m ρ c) v) Q) := by
  rw [k0_part10_eq_skeleton]
  unfold k0_part10_skel
  simp only [Prog.lift, Prog.bind_op, Prog.bind_ret, Prog.pure_eq_ret]
  iintro ⟨#HR, R, HO, Hw, Ho⟩ Hk
  iapply (step_w m ρ c) $$ Hw
  iintro Hw
  iapply (step_out m ρ c (pr 4 c) S _ (off6_eq c) _ hv) $$ Ho
  iintro Ho
  iapply (step_recv m ρ K c 5 _ rfl _ _ rfl _ rfl) $$ [R HO]
  · isplitr; · iexact HR
    isplitl [R] <;> iassumption
  iintro %v' %hv' ⟨D, HO⟩
  iapply (step_w m ρ c) $$ Hw
  iintro Hw
  iapply step_ret
  iapply Hk $$ []
  · ipureintro; exact rows_of_14 m ρ c _ v' hv'
  isplitl [D]; · iexact D
  isplitl [HO]; · iexact HO
  isplitl [Hw] <;> iassumption

/-- The sixth peer's rows are stored; the seventh's are computed. -/
theorem part11_spec (S : Finset (Dev nD)) (u1 u2) (v k v') (hv : k0_pay14 v k v' = rows m ρ c (pr 5 c)) {Q} :
    iprop(records m ρ K ∗ recvRes (F := F) c 6 ∗ ow c 0 ∗ wPts m ρ c ∗ outPts m ρ c S)
      ⊢ iprop((∀ a, (recvDone (F := F) c 6 ∗ ow c 0 ∗ wPts m ρ c ∗ outPts m ρ c (insert (pr 5 c) S)) -∗ Q ⟨rows m ρ c (pr 6 c), a⟩)
          -∗ WP c (k0_part11 (F := F) xM h0 wM h1 sxM h2 swM h3 oM h4 scrM h5 cc0_scratch1 cc0_scratch2 c u1 u2 (scl m ρ c) v k v') Q) := by
  rw [k0_part11_eq_skeleton]
  unfold k0_part11_skel
  simp only [Prog.lift, Prog.bind_op, Prog.bind_ret, Prog.pure_eq_ret]
  iintro ⟨#HR, R, HO, Hw, Ho⟩ Hk
  iapply (step_out m ρ c (pr 5 c) S _ (off7_eq c) _ hv) $$ Ho
  iintro Ho
  iapply (step_recv m ρ K c 6 _ rfl _ _ rfl _ rfl) $$ [R HO]
  · isplitr; · iexact HR
    isplitl [R] <;> iassumption
  iintro %v %hv ⟨D, HO⟩
  iapply (step_w m ρ c) $$ Hw
  iintro Hw
  iapply step_ret
  rw [rows_of_15 m ρ c _ v hv]
  iapply Hk
  isplitl [D]; · iexact D
  isplitl [HO]; · iexact HO
  isplitl [Hw] <;> iassumption

/-- The seventh peer's rows are stored; the first five own copies have left. -/
theorem part12_spec (S : Finset (Dev nD)) (u1) {Q} :
    iprop(records m ρ K ∗ leftRes (F := F) c 0 ∗ leftRes (F := F) c 1 ∗ leftRes (F := F) c 2 ∗ leftRes (F := F) c 3 ∗ leftRes (F := F) c 4 ∗ ow c 0 ∗ outPts m ρ c S)
      ⊢ iprop(((leftDone m ρ c 0 ∗ leftDone m ρ c 1 ∗ leftDone m ρ c 2 ∗ leftDone m ρ c 3 ∗ leftDone m ρ c 4 ∗ ow c 0 ∗ outPts m ρ c (insert (pr 6 c) S)) -∗ Q ⟨⟩)
          -∗ WP c (k0_part12 (F := F) xM h0 wM h1 sxM h2 swM h3 oM h4 scrM h5 cc0_scratch1 cc0_scratch2 c (rows m ρ c (pr 6 c)) u1) Q) := by
  rw [k0_part12_eq_skeleton]
  unfold k0_part12_skel
  simp only [Prog.lift, Prog.bind_op, Prog.bind_ret, Prog.pure_eq_ret]
  iintro ⟨#HR, L0, L1, L2, L3, L4, HO, Ho⟩ Hk
  iapply (step_out m ρ c (pr 6 c) S _ (off8_eq c) _ rfl) $$ Ho
  iintro Ho
  iapply (step_left m ρ K c 0 _ rfl _) $$ [L0 HO]
  · isplitr; · iexact HR
    isplitl [L0] <;> iassumption
  iintro ⟨D0, HO⟩
  iapply (step_left m ρ K c 1 _ rfl _) $$ [L1 HO]
  · isplitr; · iexact HR
    isplitl [L1] <;> iassumption
  iintro ⟨D1, HO⟩
  iapply (step_left m ρ K c 2 _ rfl _) $$ [L2 HO]
  · isplitr; · iexact HR
    isplitl [L2] <;> iassumption
  iintro ⟨D2, HO⟩
  iapply (step_left m ρ K c 3 _ rfl _) $$ [L3 HO]
  · isplitr; · iexact HR
    isplitl [L3] <;> iassumption
  iintro ⟨D3, HO⟩
  iapply (step_left m ρ K c 4 _ rfl _) $$ [L4 HO]
  · isplitr; · iexact HR
    isplitl [L4] <;> iassumption
  iintro ⟨D4, HO⟩
  iapply step_ret
  iapply Hk
  isplitl [D0]; · iexact D0
  isplitl [D1]; · iexact D1
  isplitl [D2]; · iexact D2
  isplitl [D3]; · iexact D3
  isplitl [D4]; · iexact D4
  isplitl [HO] <;> iassumption

end Parts

end Cert.Exchange

end
-- ==== Proof.Body.lean ====
/-
# The body

From what the launch hands a device to what it leaves: the landing buffer is split into its seven slots and the staged
block of `x` into the read shares of the seven copies and the share the device keeps; the parts run in order; the pieces
are put back together.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The slots of the landing buffer -/

/-- The elements of slot `d`, as elements of device `c`'s landing buffer. -/
def slotSet (c : Dev nD) (d : Fin 7) : Finset (Idx ((c : Thread nD τ).loc cc0_scratch0)) := (slotM d).view.set

theorem slotSet_eq (d : Fin 7) : (slotM d).view.set = (slotR d).set :=
  (View.set_reshape (scrM.view.slice (slotR d)) _).trans (View.set_slice_whole cc0_scratch0 (slotR d))

theorem mem_slotSet (c : Dev nD) (d : Fin 7) (i : S7x512x4096.Idx) : i ∈ slotSet c d ↔ (i 0).val = d.val := by
  have h1 : (i 1).val < 512 := (i 1).isLt
  have h2 : (i 2).val < 4096 := (i 2).isLt
  unfold slotSet
  rw [slotSet_eq, Rect.mem_set_unit]
  constructor
  · intro h
    have h0 : d.val ≤ (i 0).val ∧ (i 0).val < d.val + 1 := h 0
    omega
  · intro h a
    match a with
    | ⟨0, _⟩ => exact (show d.val ≤ (i 0).val ∧ (i 0).val < d.val + 1 by omega)
    | ⟨1, _⟩ => exact (show 0 ≤ (i 1).val ∧ (i 1).val < 0 + 512 by omega)
    | ⟨2, _⟩ => exact (show 0 ≤ (i 2).val ∧ (i 2).val < 0 + 4096 by omega)

theorem slotSet_disjoint (c : Dev nD) (d d' : Fin 7) (h : d ≠ d') : Disjoint (slotSet c d) (slotSet c d') :=
  Finset.disjoint_left.mpr fun i hi hi' => h (Fin.ext (((mem_slotSet c d i).mp hi).symm.trans ((mem_slotSet c d' i).mp hi')))

theorem slotSet_cover (c : Dev nD) : Finset.univ.biUnion (slotSet c) = Finset.univ :=
  Finset.eq_univ_iff_forall.mpr fun i => Finset.mem_biUnion.mpr
    ⟨⟨(i (0 : Fin 3)).val, (i (0 : Fin 3)).isLt⟩, Finset.mem_univ _, (mem_slotSet c _ i).mpr rfl⟩

/-- The whole landing buffer of device `c` at some contents. -/
def scrAny (c : Dev nD) : sProp 𝕄 :=
  iprop(∃ f : Buf (Elt F) ((c : Thread nD τ).loc cc0_scratch0), ((c : Thread nD τ).loc cc0_scratch0) ↦{fullShare} f)

omit [FloatOps F] in
theorem slot_some (c : Dev nD) (d : Fin 7) (f : Buf (Elt F) ((c : Thread nD τ).loc cc0_scratch0)) :
    ((((c : Thread nD τ).loc cc0_scratch0) ↦[slotSet c d]{fullShare} f) : sProp 𝕄) ⊢ slotAny (F := F) c d := by
  unfold slotAny slotPts
  iintro H
  iexists f; iexact H

omit [FloatOps F] in
theorem scr_split (c : Dev nD) : scrAny (F := F) c ⊢ bigSep Finset.univ fun d => slotAny (F := F) c d := by
  unfold scrAny
  iintro ⟨%f, H⟩
  have h : ((((c : Thread nD τ).loc cc0_scratch0) ↦{fullShare} f) : sProp 𝕄)
      = bigSep Finset.univ fun d => (((c : Thread nD τ).loc cc0_scratch0) ↦[slotSet c d]{fullShare} f) :=
    Ring.pointsTo_blocks (slotSet c) (slotSet_disjoint c) (slotSet_cover c) f
  have h' : (bigSep Finset.univ fun d => ((((c : Thread nD τ).loc cc0_scratch0) ↦[slotSet c d]{fullShare} f) : sProp 𝕄))
      ⊢ bigSep Finset.univ fun d => slotAny (F := F) c d := bigSep_mono fun d _ => slot_some c d f
  iapply h'
  rw [← h]
  iexact H

omit [FloatOps F] in
theorem scr_join (c : Dev nD) : (bigSep Finset.univ fun d => slotAny (F := F) c d) ⊢ scrAny (F := F) c := by
  have f₀ : Buf (Elt F) ((c : Thread nD τ).loc cc0_scratch0) := fun _ => (0#8 : BitVec 8)
  have h : (bigSep Finset.univ fun d => (iprop(∃ f, ((c : Thread nD τ).loc cc0_scratch0) ↦[slotSet c d]{fullShare} f) : sProp 𝕄))
      ⊢ scrAny (F := F) c := Ring.pointsTo_blocks_join_exists (slotSet c) (slotSet_disjoint c) (slotSet_cover c) f₀
  refine BI.Entails.trans (bigSep_mono fun d _ => ?_) h
  unfold slotAny slotPts slotSet
  exact BI.Entails.refl _

/-! ## The read shares of the staged block -/

/-- The staged block of `x` on device `c`, whole. -/
def xPts (c : Dev nD) : sProp 𝕄 := ((c : Thread nD τ).loc cc0_stg0_0) ↦{fullShare} xstg m ρ c

omit [FloatOps F] in
theorem x_split (c : Dev nD) : xPts m ρ c ⊢ iprop(xKeep m ρ c ∗ bigSep Finset.univ fun d => xTok m ρ c d) := by
  unfold xPts xKeep xTok
  simp only [Memref.view_whole, View.set_whole]
  exact Transfers.pointsTo_toks_split fullShare 7

omit [FloatOps F] in
theorem x_join (c : Dev nD) : iprop(xKeep m ρ c ∗ bigSep Finset.univ fun d => xTok m ρ c d) ⊢ xPts m ρ c := by
  unfold xPts xKeep xTok
  simp only [Memref.view_whole, View.set_whole]
  exact Transfers.pointsTo_toks_join fullShare 7

/-! ## The whole body -/

/-- The result's buffer on device `c`, whole at the result. -/
def outDone (c : Dev nD) : sProp 𝕄 := ((c : Thread nD τ).loc cc0_stg4_0) ↦{fullShare} outAt m ρ c

theorem out_done (c : Dev nD) (S : Finset (Dev nD)) (hS : ∀ b, b ∈ S) : outPts m ρ c S ⊢ outDone m ρ c := by
  unfold outPts outDone
  iintro ⟨%f, %hf, H⟩
  have h : f = outAt m ρ c := funext fun i => hf i (hS _)
  subst h
  iexact H

/-- What device `c`'s body starts from, beside the records: its positions and rights, its launch credit, its buffers. -/
def bodyPre (c : Dev nD) : sProp 𝕄 :=
  iprop(linear (F := F) c ∗ cred (tallyAt (barCell c) () 7) ∗ (bigSep Finset.univ fun d => cred (tallyAt (recvCell c d) () N)) ∗ levAts L lv
    ∗ scrAny (F := F) c ∗ ow c (O₀ c) ∗ xPts m ρ c ∗ wPts m ρ c ∗ sPts m ρ c ∗ outPts m ρ c ∅)

/-- The own cells, all closed. -/
def closed (c : Dev nD) : sProp 𝕄 :=
  iprop((bigSep Finset.univ fun d => semVal (sendCell c d) 0) ∗ (bigSep Finset.univ fun d => semVal (recvCell c d) 0) ∗ semVal (barCell c) 0)

/-- What it leaves. -/
def bodyPost (c : Dev nD) : sProp 𝕄 :=
  iprop(closed (F := F) c ∗ scrAny (F := F) c ∗ ow c 0 ∗ xPts m ρ c ∗ wPts m ρ c ∗ sPts m ρ c ∗ outDone m ρ c)

omit [FloatOps F] in
theorem recv_done (c : Dev nD) : (bigSep Finset.univ fun d => recvDone (F := F) c d)
    = iprop((bigSep Finset.univ fun d => semVal (recvCell c d) 0) ∗ bigSep Finset.univ fun d => slotAny (F := F) c d) := by
  unfold recvDone; exact bigSep_sep' _ _ _
omit [FloatOps F] in
theorem left_done (c : Dev nD) : (bigSep Finset.univ fun d => leftDone m ρ c d)
    = iprop((bigSep Finset.univ fun d => semVal (sendCell c d) 0) ∗ bigSep Finset.univ fun d => xTok m ρ c d) := by
  unfold leftDone; exact bigSep_sep' _ _ _
omit [FloatOps F] in
theorem recv_res (c : Dev nD) : (bigSep Finset.univ fun d => recvRes (F := F) c d)
    = iprop((bigSep Finset.univ fun d => posR (F := F) c d) ∗ bigSep Finset.univ fun d => cred (tallyAt (recvCell c d) () N)) := by
  unfold recvRes; exact bigSep_sep' _ _ _
omit [FloatOps F] in
theorem send_res (c : Dev nD) : (bigSep Finset.univ fun d => sendRes m ρ c d)
    = iprop((bigSep Finset.univ fun d => posS (F := F) c d) ∗ (bigSep Finset.univ fun d => sndTok (F := F) c d)
        ∗ (bigSep Finset.univ fun d => xTok m ρ c d) ∗ bigSep Finset.univ fun d => slotAny (F := F) (pr d c) d) := by
  unfold sendRes; rw [bigSep_sep', bigSep_sep', bigSep_sep']

/-- The row blocks stored, in the order they are stored: all of them. -/
theorem all_rows : ∀ c b : Dev nD, b ∈ insert (pr 6 c) (insert (pr 5 c) (insert (pr 4 c) (insert (pr 3 c) (insert (pr 2 c) (insert (pr 1 c)
    (insert (pr 0 c) (insert c (∅ : Finset (Dev nD))))))))) := by decide

theorem body_spec (K : Dev nD × CK → ℕ) (c : Dev nD)
    (h0 : xM.IsWhole) (h1 : wM.IsWhole) (h2 : sxM.IsWhole) (h3 : swM.IsWhole) (h4 : oM.IsWhole) (h5 : scrM.IsWhole) :
    iprop(records m ρ K ∗ bodyPre m ρ c)
      ⊢ WP c (cc0_body (F := F) xM h0 wM h1 sxM h2 swM h3 oM h4 scrM h5 cc0_scratch1 cc0_scratch2) fun _ => bodyPost m ρ c := by
  rw [cc0_body_eq_skeleton]
  unfold cc0_body_skel bodyPre linear
  iintro ⟨#HR, ⟨HpB, HpS, HpR, HtB, HtS⟩, HcB, HcR, #Hlev, Hscr, HO, Hx, Hw, Hs, Ho⟩
  ihave Hslots := (scr_split (F := F) c) $$ Hscr
  ihave Hxs := (x_split m ρ c) $$ Hx
  icases Hxs with ⟨HxK, HxT⟩
  rw [WP_bind]
  iapply (part1_spec c h0 h1 h2 h3 h4 h5)
  iintro %a1 %a2 %a3 %a4 %a5 %a6 %a7 %a8
  rw [WP_bind]
  iapply (part2_spec c h0 h1 h2 h3 h4 h5 _ _ _ _ _)
  iintro %b1 %b2 %b3 %b4 %b5 %b6 %b7
  rw [WP_bind]
  iapply (part3_spec m ρ K c h0 h1 h2 h3 h4 h5 _ _ _ _ _ _ _ _ _) $$ [HcB HpB HtB Hslots HO]
  · isplitr; · iexact HR
    isplitr; · iexact Hlev
    isplitl [HcB]; · iexact HcB
    isplitl [HpB]; · iexact HpB
    isplitl [HtB Hslots]
    · rw [bigSep_sep']; isplitl [HtB] <;> iassumption
    iexact HO
  iintro %a ⟨HO, HzB, Hpeer⟩
  ihave Hsend := (Entails.of_eq (send_res m ρ c).symm) $$ [HpS HtS HxT Hpeer]
  · isplitl [HpS]; · iexact HpS
    isplitl [HtS]; · iexact HtS
    isplitl [HxT] <;> iassumption
  ihave Hrecv := (Entails.of_eq (recv_res (F := F) c).symm) $$ [HpR HcR]
  · isplitl [HpR] <;> iassumption
  ihave Hs7 := (Entails.of_eq (bigSep_fin7 fun d => sendRes m ρ c d)) $$ Hsend
  icases Hs7 with ⟨S0, S1, S2, S3, S4, S5, S6⟩
  ihave Hr7 := (Entails.of_eq (bigSep_fin7 fun d => recvRes (F := F) c d)) $$ Hrecv
  icases Hr7 with ⟨R0, R1, R2, R3, R4, R5, R6⟩
  rw [WP_bind]
  iapply (part4_spec m ρ K c h0 h1 h2 h3 h4 h5 _ _ _ _) $$ [S0 S1 S2 HO]
  · isplitr; · iexact HR
    isplitl [S0]; · iexact S0
    isplitl [S1]; · iexact S1
    isplitl [S2] <;> iassumption
  iintro ⟨L0, L1, L2, HO⟩
  rw [WP_bind]
  iapply (part5_spec m ρ K c h0 h1 h2 h3 h4 h5 _ _ _) $$ [S3 S4 S5 S6 HO Hs HxK]
  · isplitr; · iexact HR
    isplitl [S3]; · iexact S3
    isplitl [S4]; · iexact S4
    isplitl [S5]; · iexact S5
    isplitl [S6]; · iexact S6
    isplitl [HO]; · iexact HO
    isplitl [Hs] <;> iassumption
  iintro ⟨L3, L4, L5, L6, HO, Hs, HxK⟩
  rw [WP_bind]
  iapply (part6_spec m ρ K c h0 h1 h2 h3 h4 h5 _ _ _) $$ [R0 HO Hw Ho]
  · isplitr; · iexact HR
    isplitl [R0]; · iexact R0
    isplitl [HO]; · iexact HO
    isplitl [Hw] <;> iassumption
  iintro %v %k %v' %hv ⟨D0, HO, Hw, Ho⟩
  rw [WP_bind]
  iapply (part7_spec m ρ K c h0 h1 h2 h3 h4 h5 _ _ _ _ _ _ hv) $$ [R1 HO Hw Ho]
  · isplitr; · iexact HR
    isplitl [R1]; · iexact R1
    isplitl [HO]; · iexact HO
    isplitl [Hw] <;> iassumption
  iintro %u ⟨D1, HO, Hw, Ho⟩
  rw [WP_bind]
  iapply (part8_spec m ρ K c h0 h1 h2 h3 h4 h5 _ _ _ _) $$ [R2 HO Hw Ho]
  · isplitr; · iexact HR
    isplitl [R2]; · iexact R2
    isplitl [HO]; · iexact HO
    isplitl [Hw] <;> iassumption
  iintro ⟨D2, HO, Hw, Ho⟩
  rw [WP_bind]
  iapply (part9_spec m ρ K c h0 h1 h2 h3 h4 h5 _ _ _) $$ [R3 R4 HO Hw Ho]
  · isplitr; · iexact HR
    isplitl [R3]; · iexact R3
    isplitl [R4]; · iexact R4
    isplitl [HO]; · iexact HO
    isplitl [Hw] <;> iassumption
  iintro %p %hp ⟨D3, D4, HO, Hw, Ho⟩
  rw [WP_bind]
  iapply (part10_spec m ρ K c h0 h1 h2 h3 h4 h5 _ _ _ _ hp) $$ [R5 HO Hw Ho]
  · isplitr; · iexact HR
    isplitl [R5]; · iexact R5
    isplitl [HO]; · iexact HO
    isplitl [Hw] <;> iassumption
  iintro %q %k' %q' %hq ⟨D5, HO, Hw, Ho⟩
  rw [WP_bind]
  iapply (part11_spec m ρ K c h0 h1 h2 h3 h4 h5 _ _ _ _ _ _ hq) $$ [R6 HO Hw Ho]
  · isplitr; · iexact HR
    isplitl [R6]; · iexact R6
    isplitl [HO]; · iexact HO
    isplitl [Hw] <;> iassumption
  iintro %u' ⟨D6, HO, Hw, Ho⟩
  rw [WP_bind]
  iapply (part12_spec m ρ K c h0 h1 h2 h3 h4 h5 _ _) $$ [L0 L1 L2 L3 L4 HO Ho]
  · isplitr; · iexact HR
    isplitl [L0]; · iexact L0
    isplitl [L1]; · iexact L1
    isplitl [L2]; · iexact L2
    isplitl [L3]; · iexact L3
    isplitl [L4]; · iexact L4
    isplitl [HO] <;> iassumption
  iintro ⟨E0, E1, E2, E3, E4, HO, Ho⟩
  simp only [Prog.lift, Prog.bind_op, Prog.bind_ret, Prog.pure_eq_ret]
  iapply (step_left m ρ K c 5 _ rfl _) $$ [L5 HO]
  · isplitr; · iexact HR
    isplitl [L5] <;> iassumption
  iintro ⟨E5, HO⟩
  iapply (step_left m ρ K c 6 _ rfl _) $$ [L6 HO]
  · isplitr; · iexact HR
    isplitl [L6] <;> iassumption
  iintro ⟨E6, HO⟩
  iapply step_ret
  ihave HE := (Entails.of_eq ((bigSep_fin7 fun d => leftDone m ρ c d).symm.trans (left_done m ρ c))) $$ [E0 E1 E2 E3 E4 E5 E6]
  · isplitl [E0]; · iexact E0
    isplitl [E1]; · iexact E1
    isplitl [E2]; · iexact E2
    isplitl [E3]; · iexact E3
    isplitl [E4]; · iexact E4
    isplitl [E5] <;> iassumption
  icases HE with ⟨HzS, HxT⟩
  ihave HD := (Entails.of_eq ((bigSep_fin7 fun d => recvDone (F := F) c d).symm.trans (recv_done (F := F) c))) $$ [D0 D1 D2 D3 D4 D5 D6]
  · isplitl [D0]; · iexact D0
    isplitl [D1]; · iexact D1
    isplitl [D2]; · iexact D2
    isplitl [D3]; · iexact D3
    isplitl [D4]; · iexact D4
    isplitl [D5] <;> iassumption
  icases HD with ⟨HzR, Hslots⟩
  ihave Hscr := (scr_join (F := F) c) $$ Hslots
  ihave Hx := (x_join m ρ c) $$ [HxK HxT]
  · isplitl [HxK] <;> iassumption
  ihave Ho := (out_done m ρ c _ (all_rows c)) $$ Ho
  unfold bodyPost closed
  isplitl [HzS HzR HzB]
  · isplitl [HzS]; · iexact HzS
    isplitl [HzR] <;> iassumption
  isplitl [Hscr]; · iexact Hscr
  isplitl [HO]; · iexact HO
  isplitl [Hx]; · iexact Hx
  isplitl [Hw]; · iexact Hw
  isplitl [Hs] <;> iassumption

end Cert.Exchange

end
-- ==== Proof.Run.lean ====
/-
# The launch and the run

The pipeline's proof data, the body obligation, the ghost state dealt out at launch, the launch credit, and the run of
the whole program: every fair execution ends, each device's result holds `outAt`, the arguments are unchanged, and every
semaphore counter is zero.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from, beside its buffers. -/
def start (c : Dev nD) : sProp 𝕄 :=
  iprop(ghost m ρ c ∗ cred (tallyAt (barCell c) () 7) ∗ (bigSep Finset.univ fun d => cred (tallyAt (recvCell c d) () N)) ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => iprop(start m ρ c ∗ scrAny (F := F) c)
    | ⟨_ + 1, _⟩ => iprop(closed (F := F) c ∗ scrAny (F := F) c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_intro (c : Dev nD) (b : Ref sig .tc) (X : b.ty.Contents (Elt F)) :
    ((((c : Thread nD τ).loc b) ↦{fullShare} X) : sProp 𝕄) ⊢ stg c b X := by
  iintro H
  iexists X
  isplitr; · ipureintro; rfl
  iexact H

omit [FloatOps F] in
theorem stg_elim (c : Dev nD) (b : Ref sig .tc) (X : b.ty.Contents (Elt F)) :
    (stg c b X : sProp 𝕄) ⊢ ((((c : Thread nD τ).loc b) ↦{fullShare} X) : sProp 𝕄) := by
  iintro ⟨%f, %h, H⟩
  subst h
  iexact H

/-- What the library hands the body at its one point, the windows listed, -/
def pointPre (c : Dev nD) : sProp 𝕄 :=
  iprop((start m ρ c ∗ scrAny (F := F) c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- and what it wants back. -/
def pointPost (c : Dev nD) : sProp 𝕄 :=
  iprop((closed (F := F) c ∗ scrAny (F := F) c) ∗ (dats m ρ 0 c).owesAt () t0_0.succ
    ∗ stg c cc0_stg0_0 (xstg m ρ c) ∗ stg c cc0_stg1_0 (wstg m ρ c) ∗ stg c cc0_stg2_0 (sxstg m ρ c) ∗ stg c cc0_stg3_0 (swstg m ρ c)
    ∗ stg c cc0_stg4_0 (outAt m ρ c))

theorem before_0 (c : Dev nD) (d) : (dats m ρ 0 c).before (0 : Fin 5) t0_0 d = xstg m ρ c := by
  unfold Dat.before; rw [if_pos (fetch0_0 t0_0)]; rfl
theorem before_1 (c : Dev nD) (d) : (dats m ρ 0 c).before (1 : Fin 5) t0_0 d = wstg m ρ c := by
  unfold Dat.before; rw [if_pos (fetch0_1 t0_0)]; rfl
theorem before_2 (c : Dev nD) (d) : (dats m ρ 0 c).before (2 : Fin 5) t0_0 d = sxstg m ρ c := by
  unfold Dat.before; rw [if_pos (fetch0_2 t0_0)]; rfl
theorem before_3 (c : Dev nD) (d) : (dats m ρ 0 c).before (3 : Fin 5) t0_0 d = swstg m ρ c := by
  unfold Dat.before; rw [if_pos (fetch0_3 t0_0)]; rfl

theorem point_pre (c : Dev nD) : pointPre m ρ c ⊢ iprop(∃ K, records m ρ K ∗ bodyPre m ρ c) := by
  unfold pointPre start ghost bodyPre ow sPts xPts wPts Dat.owesAt Pipeline.owesWithin
  simp only [before_0 m ρ c, before_1 m ρ c, before_2 m ρ c, before_3 m ρ c]
  rw [show (dats m ρ 0 c).owed t0_0.castSucc = O₀ c from rfl]
  iintro ⟨⟨⟨⟨%K, #HR, Hl⟩, HcB, HcR, #Hlev⟩, Hscr⟩, ⟨%W, %hW, HO⟩, ⟨%d0, Hx⟩, ⟨%d1, Hw⟩, ⟨%d2, Hsx⟩, ⟨%d3, Hsw⟩, ⟨%d4, %f, %hf, Ho⟩⟩
  iexists K
  isplitr; · iexact HR
  isplitl [Hl]; · iexact Hl
  isplitl [HcB]; · iexact HcB
  isplitl [HcR]; · iexact HcR
  isplitr; · iexact Hlev
  isplitl [Hscr]; · iexact Hscr
  isplitl [HO]; · iexists W; iexact HO
  isplitl [Hx]; · iapply (stg_elim c cc0_stg0_0 (xstg m ρ c)); iexact Hx
  isplitl [Hw]; · iapply (stg_elim c cc0_stg1_0 (wstg m ρ c)); iexact Hw
  isplitl [Hsx Hsw]
  · isplitl [Hsx]
    · iapply (stg_elim c cc0_stg2_0 (sxstg m ρ c)); iexact Hsx
    · iapply (stg_elim c cc0_stg3_0 (swstg m ρ c)); iexact Hsw
  unfold outPts
  iexists f
  isplitr; · ipureintro; exact fun i hi => absurd hi (Finset.notMem_empty _)
  iexact Ho

theorem point_post (c : Dev nD) : bodyPost m ρ c ⊢ pointPost m ρ c := by
  unfold pointPost bodyPost ow sPts xPts wPts outDone Dat.owesAt Pipeline.owesWithin
  rw [show (dats m ρ 0 c).owed t0_0.succ = 0 from rfl]
  iintro ⟨Hcl, Hscr, ⟨%W, HO⟩, Hx, Hw, ⟨Hsx, Hsw⟩, Ho⟩
  isplitl [Hcl Hscr]; · isplitl [Hcl] <;> iassumption
  isplitl [HO]
  · iexists W
    isplitr; · ipureintro; exact fun _ _ => Or.inl trivial
    iexact HO
  isplitl [Hx]; · iapply (stg_intro c cc0_stg0_0 (xstg m ρ c)); iexact Hx
  isplitl [Hw]; · iapply (stg_intro c cc0_stg1_0 (wstg m ρ c)); iexact Hw
  isplitl [Hsx]; · iapply (stg_intro c cc0_stg2_0 (sxstg m ρ c)); iexact Hsx
  isplitl [Hsw]; · iapply (stg_intro c cc0_stg3_0 (swstg m ρ c)); iexact Hsw
  iapply (stg_intro c cc0_stg4_0 (outAt m ρ c)); iexact Ho

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) :=
  bigSep_W0 Φ

set_option maxRecDepth 20000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show pointPre m ρ c ⊢ WP c (cc0_body (F := F) xM (hstage0_0 0) wM (hstage0_1 0) sxM (hstage0_2 0) swM (hstage0_3 0) oM (hstage0_4 0)
    scrM (Memref.isWhole_whole _) cc0_scratch1 cc0_scratch2) (fun _ => pointPost m ρ c)
  refine (point_pre m ρ c).trans (exists_elim fun K => ?_)
  exact (body_spec m ρ K c _ _ _ _ _ _).trans (wp_mono _ _ _ fun _ => point_post m ρ c)

/-! ## The ghost state dealt at launch -/

/-- The kernel's own semaphores: seven send and seven receive. -/
def osem (e : Fin 7 ⊕ Fin 7) : SemLoc sig := csem (.inr e)
theorem ownSemFacts : Pipeline.OwnSemFacts cfg0.spec osem := by decide

theorem share_eq (c : Dev nD) (w : Fin cfg0.W) : (dats m ρ 0 c).share w = fullShare := by unfold Dat.share; split <;> rfl

/-- The duties of a device's own cells: seven at its barrier, one at each of the others. -/
abbrev TK : Type := Fin 7 ⊕ (Fin 7 ⊕ Fin 7)
def tokOf : Dev nD × TK → GSem nD τ sig × ℕ × Fin 7
  | (c, .inl d) => (barCell c, 0, d)
  | (c, .inr e) => (kcell (c, .inr e), 0, 0)

theorem tokOf_injective : Function.Injective tokOf := by
  rintro ⟨c, d | e⟩ ⟨c', d' | e'⟩ h
  · have h1 := kcell_injective (congrArg Prod.fst h)
    have h2 : d = d' := congrArg (fun x => x.2.2) h
    rw [h2, (Prod.mk.inj h1).1]
  · exact nomatch (Prod.mk.inj (kcell_injective (congrArg Prod.fst h))).2
  · exact nomatch (Prod.mk.inj (kcell_injective (congrArg Prod.fst h))).2
  · have h1 := Prod.mk.inj (kcell_injective (congrArg Prod.fst h))
    rw [h1.1, Sum.inr.inj h1.2]

def exchCells : Finset (GSem nD τ sig) := Finset.univ.map ⟨kcell, kcell_injective⟩
def exchToks : Finset (GSem nD τ sig × ℕ × Fin 7) := Finset.univ.map ⟨tokOf, tokOf_injective⟩

def u₀ : UU :=
  (initOf (Pipeline.cells cfgs cellOf_inj) (Pipeline.launchToks cfgs cellOf_inj), initOf exchCells exchToks)

/-- The duty tokens of device `c`'s own cells. -/
def toks (c : Dev nD) : sProp 𝕄 :=
  bigSep Finset.univ fun k : TK => dutyTok ER (tokOf (c, k)).1 (tokOf (c, k)).2.1 (tokOf (c, k)).2.2

/-- What the launch element gives device `c`. -/
def G (c : Dev nD) : sProp 𝕄 :=
  iprop((bigSep Finset.univ fun k : CK => roundState ER (exch m ρ) (kcell (c, k)) 0)
    ∗ (bigSep Finset.univ fun k : CK => atPos ER (kcell (c, k)) 0 ∅ 0)
    ∗ (bigSep Finset.univ fun k : CK => reached ER (kcell (c, k)) 0) ∗ toks c)

omit [FloatOps F] in
theorem fund_exch : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : CK => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod]; rfl
  iintro HX
  imod (Rounds.fund ER (exch m ρ) exchCells exchToks) $$ HX with ⟨Hst, Hr, Hat, Htok⟩
  imodintro
  ihave Hst' := (Entails.of_eq (hX fun g => roundState ER (exch m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
/-- Something for each of a device's cells: for its barrier, its send cells and its receive cells. -/
theorem bigSep_CK (Φ : CK → sProp 𝕄) : bigSep Finset.univ Φ
    = iprop(Φ (.inl ()) ∗ (bigSep Finset.univ fun d => Φ (.inr (.inl d))) ∗ bigSep Finset.univ fun d => Φ (.inr (.inr d))) := by
  rw [bigSep_univ_sum, bigSep_univ_sum, bigSep_univ_eq_bigSepL [()] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun d => semVal (sendCell c d) 0) ∗ bigSep Finset.univ fun d => semVal (recvCell c d) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The invariants of device `c`'s cells, from its counters at zero and the cells' first states. -/
theorem cells_alloc (c : Dev nD) :
    iprop((bigSep Finset.univ fun k : CK => semVal (kcell (c, k)) 0) ∗ bigSep Finset.univ fun k : CK => roundState ER (exch m ρ) (kcell (c, k)) 0)
      ⊢ (|={Set.univ}=> bigSep Finset.univ fun k : CK => iprop(∃ κ : ℕ, cellInv ER (exch m ρ) κ (kcell (c, k))) : sProp 𝕄) := by
  rw [← bigSep_sep']
  exact (bigSep_mono fun k _ => (Rounds.body_intro ER (exch m ρ) (kcell (c, k))).trans inv_alloc).trans (bigSep_fupd _ _)

/-- What device `c` has once its cells are allocated. -/
def alloced (c : Dev nD) : sProp 𝕄 :=
  iprop((bigSep Finset.univ fun k : CK => iprop(∃ κ : ℕ, cellInv ER (exch m ρ) κ (kcell (c, k))))
    ∗ (bigSep Finset.univ fun k : CK => reached ER (kcell (c, k)) 0) ∗ (bigSep Finset.univ fun k : CK => atPos ER (kcell (c, k)) 0 ∅ 0) ∗ toks c)

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> alloced m ρ c := by
  rw [ownSems0_eq, unscopedSems0_eq]
  unfold G alloced
  iintro ⟨⟨HS, HR⟩, HB, Hst, Hat, Hre, Htok⟩
  imod (cells_alloc m ρ c) $$ [HS HR HB Hst] with Hinv
  · rw [bigSep_CK (F := F) fun k => semVal (kcell (c, k)) 0]
    isplitl [HS HR HB]
    · isplitl [HB]; · iexact HB
      isplitl [HS] <;> iassumption
    iexact Hst
  imodintro
  isplitl [Hinv]; · iexact Hinv
  isplitl [Hre]; · iexact Hre
  isplitl [Hat] <;> iassumption

omit [FloatOps F] in
/-- Something for each device and slot may be dealt to the peers instead. -/
theorem bigSep_peers (Ψ : Dev nD → Fin 7 → sProp 𝕄) :
    (bigSep Finset.univ fun c : Dev nD => bigSep Finset.univ fun d => Ψ c d) = bigSep Finset.univ fun c : Dev nD => bigSep Finset.univ fun d => Ψ (pr d c) d := by
  rw [bigSep_univ_comm, bigSep_univ_comm (fun (c : Dev nD) (d : Fin 7) => Ψ (pr d c) d)]
  exact bigSep_congr fun d _ => bigSep_univ_equiv (swp d) fun c => Ψ c d

/-- The tokens of the duties device `c` itself pays. -/
def payToks (c : Dev nD) : sProp 𝕄 :=
  iprop((bigSep Finset.univ fun d => sigTok c d) ∗ bigSep Finset.univ fun d => sndTok c d)

omit [FloatOps F] in
theorem toks_dealt : (bigSep Finset.univ fun c : Dev nD => (toks c : sProp 𝕄)) ⊢ bigSep Finset.univ fun c : Dev nD => payToks c := by
  have h (c : Dev nD) : (toks c : sProp 𝕄) = iprop((bigSep Finset.univ fun d => dutyTok ER (barCell c) 0 d)
      ∗ (bigSep Finset.univ fun d => dutyTok ER (sendCell c d) 0 0) ∗ bigSep Finset.univ fun d => dutyTok ER (recvCell c d) 0 0) := by
    unfold toks; rw [bigSep_univ_sum, bigSep_univ_sum]; rfl
  unfold payToks sigTok sndTok
  simp only [h, bigSep_sep']
  rw [bigSep_peers fun (c : Dev nD) d => (dutyTok ER (barCell c) 0 d : sProp 𝕄), bigSep_peers fun (c : Dev nD) d => (dutyTok ER (recvCell c d) 0 0 : sProp 𝕄)]

omit [FloatOps F] in
/-- A persistent fact goes to every summand. -/
theorem deal_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem ghost_intro (K : Dev nD × CK → ℕ) (c : Dev nD) :
    iprop(records m ρ K ∗ (bigSep Finset.univ fun k : CK => atPos ER (kcell (c, k)) 0 ∅ 0) ∗ payToks c) ⊢ ghost m ρ c := by
  rw [bigSep_CK]
  unfold ghost linear payToks posS posR
  iintro ⟨HR, ⟨Hb, Hs, Hr⟩, Hsig, Hsnd⟩
  iexists K
  isplitl [HR]; · iexact HR
  isplitl [Hb]; · iexact Hb
  isplitl [Hs]; · iexact Hs
  isplitl [Hr]; · iexact Hr
  isplitl [Hsig] <;> iassumption

omit [FloatOps F] in
theorem regroup : (bigSep Finset.univ (alloced m ρ) : sProp 𝕄) ⊢ bigSep Finset.univ (ghost m ρ) := by
  unfold alloced
  simp only [bigSep_sep']
  rw [← bigSep_univ_prod (fun ck : Dev nD × CK => iprop(∃ κ : ℕ, cellInv ER (exch m ρ) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (exch m ρ) κ (kcell ck) : sProp 𝕄))) $$ HI
  icases HK with ⟨%K, #HI⟩
  ihave Htk := (toks_dealt (F := F)) $$ Htok
  iapply (deal_records (R := records m ρ K) (ghost_intro m ρ K))
  isplitr
  · unfold records
    isplitl; · iexact HI
    iexact HR
  · rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

theorem pr_eq_iff (d : Fin 7) (a b : Dev nD) : Iff (a = pr d b) (b = pr d a) :=
  ⟨fun h => by rw [h, pr_pr], fun h => by rw [h, pr_pr]⟩

/-- What device `c` owes a receive cell for the copies `l`: a block's credit for each copy into it. -/
theorem oweR_recv (c b : Dev nD) (d : Fin 7) : ∀ l : List (Fin 7), oweR c l (recvCell b d) () = if c = pr d b then l.count d * N else 0
  | [] => by unfold oweR; split <;> simp
  | e :: l => by
    unfold oweR
    rw [Pi.add_apply, Finsupp.add_apply, tallyAt_apply, oweR_recv c b d l, List.count_cons]
    by_cases hd : e = d
    · subst hd
      by_cases hc : c = pr e b
      · rw [if_pos hc, if_pos hc, if_pos ⟨by rw [hc, pr_pr], rfl⟩, beq_self_eq_true, if_pos rfl, Nat.add_mul, Nat.one_mul]
      · rw [if_neg hc, if_neg hc, if_neg fun h => hc ((pr_eq_iff e b c).mp (congrArg (fun x : Dev nD × CK => x.1) (kcell_injective h.1)))]
    · have h2 : ¬(recvCell b d = recvCell (pr e c) e ∧ () = ()) := fun h =>
        hd (Sum.inr.inj (Sum.inr.inj (congrArg (fun x : Dev nD × CK => x.2) (kcell_injective h.1)))).symm
      rw [if_neg h2, Nat.add_zero, if_neg (c := (e == d) = true) (by simpa using hd), Nat.add_zero]

theorem oweR_bar (c b : Dev nD) (l : List (Fin 7)) : oweR c l (barCell b) () = 0 := by
  refine Nat.eq_zero_of_not_pos fun h => ?_
  obtain ⟨d, hd⟩ := oweR_pos h
  exact nomatch congrArg (fun x : Dev nD × CK => x.2) (kcell_injective hd)

theorem oweB_recv (c b : Dev nD) (d : Fin 7) : ∀ l : List (Fin 7), oweB c l (recvCell b d) () = oweR c slots (recvCell b d) ()
  | [] => rfl
  | e :: l => by
    unfold oweB
    rw [Pi.add_apply, Finsupp.add_apply, tallyAt_apply, oweB_recv c b d l, if_neg, Nat.add_zero]
    exact fun h => nomatch congrArg (fun x : Dev nD × CK => x.2) (kcell_injective h.1)

/-- What device `c` owes a barrier for the signals `l`: a unit for each signal to it. -/
theorem oweB_bar (c b : Dev nD) : ∀ l : List (Fin 7), oweB c l (barCell b) () = (l.map fun d => if b = pr d c then 1 else 0).sum
  | [] => oweR_bar c b slots
  | e :: l => by
    unfold oweB
    rw [Pi.add_apply, Finsupp.add_apply, tallyAt_apply, oweB_bar c b l, List.map_cons, List.sum_cons, Nat.add_comm]
    congr 1
    refine if_congr ⟨fun h => congrArg (fun x : Dev nD × CK => x.1) (kcell_injective h.1), fun h => ⟨by rw [h], rfl⟩⟩ rfl rfl

theorem seven_signals : ∀ b : Dev nD, (∑ c : Dev nD, (slots.map fun d => if b = pr d c then 1 else 0).sum) = 7 := by decide
theorem slots_count : ∀ d : Fin 7, slots.count d = 1 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from oweB_bar d c slots]
  exact seven_signals c

theorem launch_recv (c : Dev nD) (d : Fin 7) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same,
    Finset.sum_congr rfl fun b _ => show O₀ b (recvCell c d) () = _ from (oweB_recv b c d slots).trans ((oweR_recv b c d slots).trans (by rw [slots_count, Nat.one_mul])),
    Finset.sum_ite_eq' Finset.univ (pr d c) fun _ => N, if_pos (Finset.mem_univ _)]

theorem recvSem_injective : Function.Injective fun d : Fin 7 => csem (.inr (.inr d)) := fun _ _ h => Sum.inr.inj (Sum.inr.inj (csem_inj h))

omit [FloatOps F] in
theorem creds (c : Dev nD) :
    (Pipeline.launchCred O₀ c : sProp 𝕄) ⊢ iprop(cred (tallyAt (barCell c) () 7) ∗ bigSep Finset.univ fun d => cred (tallyAt (recvCell c d) () N)) := by
  unfold Pipeline.launchCred
  rw [bigSep_univ_at _ (SemLoc.reg barS)]
  refine BI.sep_mono (Entails.of_eq (congrArg cred (launch_bar c))) ?_
  have hs : Finset.univ.map ⟨fun d : Fin 7 => csem (.inr (.inr d)), recvSem_injective⟩ ⊆ Finset.univ.erase (SemLoc.reg barS) := by decide
  have h : bigSep (Finset.univ.map ⟨fun d : Fin 7 => csem (.inr (.inr d)), recvSem_injective⟩)
      (fun sm => (cred (tallyOn ((c : Thread nD τ), sm) (launchCredit (Pipeline.owing O₀) 0 ((c : Thread nD τ), sm))) : sProp 𝕄))
      = bigSep Finset.univ fun d => cred (tallyAt (recvCell c d) () N) := by
    rw [bigSep_map]
    exact bigSep_congr fun d _ => congrArg cred (launch_recv c d)
  rw [← h]
  exact bigSep_subset hs

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨HB, HR⟩
  imodintro
  unfold start
  isplitl
  · isplitl [HG]; · iexact HG
    isplitl [HB]; · iexact HB
    isplitl [HR] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scrAny (F := F) c) from rfl, scopedRest0_eq]
  unfold scrAny
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed (F := F) c ∗ scrAny (F := F) c) from rfl, scopedRest0_eq, ownSems0_eq, unscopedSems0_eq]
  unfold closed scrAny
  iintro ⟨⟨HS, HR, HB⟩, Hr⟩
  isplitl [HB]; · iexact HB
  isplitl [HS HR]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values and from any memory with zero counters, every weakly fair execution of the program on the eight
    devices ends, each device's arrays hold their final contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final contents -/

/-- An array that the kernel only reads holds what it held. -/
theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

/-- The result's one block is the whole array, and the body left `outAt` there. -/
theorem finalA_4 (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from flush0_4 (0 : Fin 1), if_pos rfl]
  exact View.read_write_univ _ _

/-- Every final state has the four arguments unchanged. -/
theorem QC_args {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans (finalA_0 m ρ c), (h c (1 : Fin 5)).trans (finalA_1 m ρ c), (h c (2 : Fin 5)).trans (finalA_2 m ρ c),
    (h c (3 : Fin 5)).trans (finalA_3 m ρ c)⟩

/-- The run's frame: it ends with the arguments unchanged and every counter at zero. -/
theorem run_frame : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => QC_args m ρ h.1 c, h.2⟩) (run_main m ρ)

end Cert.Exchange

end
-- ==== Proof.Words.lean ====
/-
# The arithmetic of one element

A row and a column of signed bytes: their exact product sum, the total of the products' magnitudes, how the two read as
extended reals, the bound by sums of squares, and the function applied to the scaled sum.
-/
module

public import Idealize.ShloMosaic.Lib.IntMxu
public import Idealize.ShloMosaic.Lib.StackMember
public import Idealize.ShloMosaic.Lib.Pointwise
public import Mathlib.Algebra.Order.BigOperators.Ring.Finset
public import Mathlib.Data.EReal.Operations

@[expose] public section

noncomputable section

namespace Cert.Words

open Idealize.ShloMosaic
open Idealize.ShloMosaic.ValueIdx (contrEquiv1 contrEquiv1_symm_val)

variable {n : ℕ}

/-- The exact sum of the products of a row and a column of bytes, each byte read as a signed integer. -/
def dot (f g : Fin n → BitVec 8) : ℤ := ∑ k, (f k).toInt * (g k).toInt

/-- The total of the products' magnitudes. -/
def total (f g : Fin n → BitVec 8) : ℕ := ∑ k, ((f k).toInt * (g k).toInt).natAbs

/-- The sum of a byte vector's squares. -/
def energy (f : Fin n → BitVec 8) : ℤ := ∑ k, (f k).toInt * (f k).toInt

/-- A byte widened to a word is the same integer. -/
theorem widen_toInt (b : BitVec 8) : (b.signExtend 32).toInt = b.toInt := BitVec.toInt_signExtend_of_le (by decide)

/-- A finite sum of integers, read as an extended real, is the sum of the integers so read. -/
theorem coe_sum_int {ι : Type} (s : Finset ι) (f : ι → ℤ) :
    (((∑ k ∈ s, f k : ℤ) : ℝ) : EReal) = ∑ k ∈ s, ((f k : ℝ) : EReal) := by
  classical
  refine Finset.induction_on s (by simp) fun a s ha ih => ?_
  rw [Finset.sum_insert ha, Finset.sum_insert ha, ← ih, Int.cast_add, EReal.coe_add]

/-- The sum of the products of the extended reals that the bytes are is the exact sum. -/
theorem sum_mul_eq_dot (f g : Fin n → BitVec 8) :
    (∑ k, (((f k).toInt : ℝ) : EReal) * (((g k).toInt : ℝ) : EReal)) = ((dot f g : ℝ) : EReal) := by
  unfold dot
  rw [coe_sum_int]
  exact Finset.sum_congr rfl fun k _ => by rw [Int.cast_mul, EReal.coe_mul]

/-- The magnitude of an integer, read as an extended real. -/
theorem max_neg_int (z : ℤ) : max ((z : ℝ) : EReal) (-((z : ℝ) : EReal)) = (((z.natAbs : ℤ) : ℝ) : EReal) := by
  rw [← EReal.coe_neg, ← EReal.coe_strictMono.monotone.map_max, Int.natCast_natAbs, Int.cast_abs]
  rfl

/-- The sum of the products of magnitudes is the total. -/
theorem sum_abs_eq_total (f g : Fin n → BitVec 8) :
    (∑ k, max (((f k).toInt : ℝ) : EReal) (-(((f k).toInt : ℝ) : EReal)) * max (((g k).toInt : ℝ) : EReal) (-(((g k).toInt : ℝ) : EReal)))
      = (((total f g : ℤ) : ℝ) : EReal) := by
  unfold total
  rw [Nat.cast_sum, coe_sum_int]
  refine Finset.sum_congr rfl fun k _ => ?_
  rw [max_neg_int, max_neg_int, ← EReal.coe_mul, ← Int.cast_mul, ← Nat.cast_mul, ← Int.natAbs_mul]

/-- The Cauchy–Schwarz inequality: sums of squares below a bound keep the total below it. -/
theorem total_lt_of_energy {B : ℕ} (f g : Fin n → BitVec 8) (hf : energy f < B) (hg : energy g < B) : total f g < B := by
  have key : (total f g : ℤ) ^ 2 ≤ energy f * energy g := by
    have h := Finset.sum_mul_sq_le_sq_mul_sq (Finset.univ : Finset (Fin n)) (fun k => |(f k).toInt|) (fun k => |(g k).toInt|)
    simp only [sq_abs] at h
    have e : (total f g : ℤ) = ∑ k, |(f k).toInt| * |(g k).toInt| := by
      unfold total
      rw [Nat.cast_sum]
      exact Finset.sum_congr rfl fun k _ => by rw [Int.natCast_natAbs, abs_mul]
    rw [e]
    simpa only [energy, sq] using h
  have hg0 : 0 ≤ energy g := Finset.sum_nonneg fun k _ => mul_self_nonneg _
  have hB : energy f * energy g < (B : ℤ) ^ 2 := by
    have h0 : 0 ≤ energy f := Finset.sum_nonneg fun k _ => mul_self_nonneg _
    nlinarith
  have : (total f g : ℤ) < B := lt_of_pow_lt_pow_left₀ 2 (by positivity) (key.trans_lt hB)
  exact_mod_cast this

/-- The literal 2²⁴. -/
theorem bound_lit : Ideal.ofBits .f32 0x4B800000#32 = ((16777216 : ℝ) : EReal) := by
  simp [Ideal.ofBits, Ideal.ieee, -EReal.coe_mul]; norm_num

/-- An integer is less than the literal exactly when it is less than 2²⁴. -/
theorem cmp_bound (z : ℤ) : Ideal.cmp .olt ((z : ℝ) : EReal) (Ideal.ofBits .f32 0x4B800000#32) = 1#1 ↔ z < 16777216 := by
  rw [bound_lit]
  have : ((z : ℝ) : EReal) < ((16777216 : ℝ) : EReal) ↔ z < 16777216 := by
    rw [EReal.coe_lt_coe_iff]; exact_mod_cast Iff.rfl
  simp only [Ideal.cmp, this]
  by_cases h : z < 16777216 <;> simp [h]

/-- The function applied to each exact sum `z` under the scale `s`: with `y = z * s`, it is
    `y / (1 + exp (-clip y))`, the clip to [-60, 60]. -/
def act (s : EReal) (z : ℤ) : EReal :=
  Ideal.div (((z : ℝ) : EReal) * s)
    (1 + Ideal.exp (-(min (Ideal.ofBits .f32 0x42700000#32) (max (Ideal.ofBits .f32 0xC2700000#32) (((z : ℝ) : EReal) * s)))))

/-! ## A plain product's operand indices -/

/-- A sum over the positions of a plain product at an index is the sum over the row's and the column's entries. -/
theorem plain_sum {M K N : ℕ} {A : Type} [AddCommMonoid A]
    (t : (⟨2, ![M, K]⟩ : Shape).Idx → (⟨2, ![K, N]⟩ : Shape).Idx → A) (r : Fin M) (c : Fin N) :
    (∑ k, t ((DotDims.plain M K N).lhsIdx (ix2 r c) k) ((DotDims.plain M K N).rhsIdx (ix2 r c) k)) = ∑ k : Fin K, t (ix2 r k) (ix2 k c) := by
  rw [← Equiv.sum_comp (contrEquiv1 (DotDims.plain M K N) K rfl rfl).symm]
  refine Finset.sum_congr rfl fun k _ => ?_
  have hk := contrEquiv1_symm_val (DotDims.plain M K N) K rfl rfl k
  refine congrArg₂ t (funext fun a => Fin.ext ?_) (funext fun a => Fin.ext ?_)
  · match a with
    | ⟨0, _⟩ => rfl
    | ⟨1, _⟩ => exact hk
  · match a with
    | ⟨0, _⟩ => exact hk
    | ⟨1, _⟩ => rfl

/-- The integer product of two byte matrices into zero, at an element whose products' magnitudes total less than 2²⁴,
    read as a signed integer, is the exact sum. -/
theorem matmul_toInt {M K N : ℕ} (x : IVec ⟨2, ![M, K]⟩ 8) (w : IVec ⟨2, ![K, N]⟩ 8) (acc : IVec ⟨2, ![M, N]⟩ 32) (r : Fin M) (c : Fin N)
    (h0 : acc (ix2 r c) = 0) (h : total (fun k => x (ix2 r k)) (fun k => w (ix2 k c)) < 16777216) :
    (matmulI8 IntMxuNumerics.v7x (DotDims.plain M K N) x w acc (ix2 r c)).toInt = dot (fun k => x (ix2 r k)) fun k => w (ix2 k c) := by
  refine (matmulI8_toInt _ _ x w acc _ h0 ?_).trans (plain_sum (fun i j => (x i).toInt * (w j).toInt) r c)
  have e : absDotI8 (DotDims.plain M K N) x w (ix2 r c) = total (fun k => x (ix2 r k)) fun k => w (ix2 k c) :=
    plain_sum (fun i j => ((x i).toInt * (w j).toInt).natAbs) r c
  rw [e]
  exact Nat.le_of_lt_succ h

end Cert.Words

end
-- ==== Proof.Whole.lean ====
/-
# The two programs' values, element by element

What the reference's result, the mask and the precondition are at an element of the whole arrays, and what a device's
block of rows is at an element, all in terms of a row of `x` and a column of `w`.
-/
module

public import proofs.«01_k».proof.Defs
public import proofs.«01_k».proof.Proof.Words
public import proofs.«01_k».proof.Proof.Run
public import proofs.«01_k».proof.Proof.Gen.On_determined
public import proofs.«01_k».proof.Proof.Gen.Pre_tame_KernelIdeal
public import proofs.«01_k».proof.Proof.Gen.ReferenceIdeal
public import proofs.«01_k».proof.Proof.Gen.ReferenceIdeal.Run

@[expose] public section

set_option maxRecDepth 16384

noncomputable section

namespace Cert.Whole

open Idealize.ShloMosaic Idealize.ShloMosaic.TcCoe Idealize.SL.Sem
open Cert.Words

/-! ## The whole arrays -/

/-- Row `r` of a byte matrix, and its column `c`. -/
abbrev row {M K : ℕ} (x : IVec ⟨2, ![M, K]⟩ 8) (r : Fin M) : Fin K → BitVec 8 := fun k => x (ix2 r k)
abbrev col {K N : ℕ} (w : IVec ⟨2, ![K, N]⟩ 8) (c : Fin N) : Fin K → BitVec 8 := fun k => w (ix2 k c)

/-- The reference's result: at (r, c), the function of the exact sum of row `r` and column `c` under the product of the
    two scales. -/
def silu (x : IVec ⟨2, ![4096, 4096]⟩ 8) (w : IVec ⟨2, ![4096, 2048]⟩ 8) (sx sw : FVec Ideal ⟨1, ![1]⟩ .f32) :
    FVec Ideal ⟨2, ![4096, 2048]⟩ .f32 := fun j =>
  act (sx (ix1 0) * sw (ix1 0)) (dot (row x (j 0)) (col w (j 1)))

/-- The host's product of the two widened byte matrices, at an element, is the exact sum. -/
theorem host_dot {M K N : ℕ} (x : IVec ⟨2, ![M, K]⟩ 8) (w : IVec ⟨2, ![K, N]⟩ 8) (hx : 8 < 32) (r : Fin M) (c : Fin N) :
    Host.dotGeneral (F := Ideal) (DotDims.plain M K N) none (sitofp .f32 (extsi 32 x hx)) (sitofp .f32 (extsi 32 w hx)) (ix2 r c)
      = ((dot (row x r) (col w c) : ℝ) : EReal) := by
  show FloatOps.dotGeneral _ none _ _ _ (ix2 r c) = _
  rw [Ideal.dotGeneral_apply]
  refine (plain_sum (fun i j => (((((x i).signExtend 32).toInt : ℤ) : ℝ) : EReal) * (((((w j).signExtend 32).toInt : ℤ) : ℝ) : EReal)) r c).trans ?_
  simp only [widen_toInt]
  exact sum_mul_eq_dot (row x r) (col w c)

/-- The same of the magnitudes: their total. -/
theorem host_abs_dot {M K N : ℕ} (x : IVec ⟨2, ![M, K]⟩ 8) (w : IVec ⟨2, ![K, N]⟩ 8) (hx : 8 < 32) (r : Fin M) (c : Fin N) :
    Host.dotGeneral (F := Ideal) (DotDims.plain M K N) none (Host.absf (sitofp .f32 (extsi 32 x hx))) (Host.absf (sitofp .f32 (extsi 32 w hx)))
        (ix2 r c)
      = (((total (row x r) (col w c) : ℤ) : ℝ) : EReal) := by
  show FloatOps.dotGeneral _ none _ _ _ (ix2 r c) = _
  rw [Ideal.dotGeneral_apply]
  refine (plain_sum (fun i j =>
    max (((((x i).signExtend 32).toInt : ℤ) : ℝ) : EReal) (-(((((x i).signExtend 32).toInt : ℤ) : ℝ) : EReal))
      * max (((((w j).signExtend 32).toInt : ℤ) : ℝ) : EReal) (-(((((w j).signExtend 32).toInt : ℤ) : ℝ) : EReal))) r c).trans ?_
  simp only [widen_toInt]
  exact sum_abs_eq_total (row x r) (col w c)

/-- The mask's and the reference's products are plain ones, rows by columns. -/
theorem mask_dims : Cert.On_determined.dot_S4096x4096_S4096x2048_S4096x2048_1_0_0_1_n_n = DotDims.plain 4096 4096 2048 := rfl
theorem reference_dims : Cert.ReferenceIdeal.dot_S4096x4096_S4096x2048_S4096x2048_1_0_0_1_n_n = DotDims.plain 4096 4096 2048 := rfl

/-- The mask is set at an element exactly when its products' magnitudes total less than 2²⁴. -/
theorem determined_iff (x : IVec ⟨2, ![4096, 4096]⟩ 8) (w : IVec ⟨2, ![4096, 2048]⟩ 8) (sx sw : FVec Ideal ⟨1, ![1]⟩ .f32)
    (j : (⟨2, ![4096, 2048]⟩ : Shape).Idx) :
    Cert.On_determined.fn (F := Ideal) x w sx sw j = 1#1 ↔ total (row x (j 0)) (col w (j 1)) < 16777216 := by
  rw [show (total (row x (j 0)) (col w (j 1)) < 16777216) ↔ ((total (row x (j 0)) (col w (j 1)) : ℤ) < 16777216) by omega,
    ← cmp_bound, ← host_abs_dot x w (by decide) (j 0) (j 1), ← eq_ix2 j]
  unfold Cert.On_determined.fn
  dsimp only
  rw [mask_dims]
  generalize Host.dotGeneral (F := Ideal) (DotDims.plain 4096 4096 2048) none _ _ = d
  exact Iff.rfl

/-- The reference ends with `silu` of its arguments, which are unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
      r.2.mem ((c.tc : Thread Cert.ReferenceIdeal.nD Cert.ReferenceIdeal.τ).loc Cert.ReferenceIdeal.main_v14)
        = silu (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3) := by
  refine (θ_run Cert.ReferenceIdeal.defs _ _).mono (fun r h c => ⟨(h c).1.trans ?_, (h c).2⟩) (Cert.ReferenceIdeal.Value.run (F := Ideal) m ρ)
  generalize m ((c.tc : Thread Cert.ReferenceIdeal.nD Cert.ReferenceIdeal.τ).loc Cert.ReferenceIdeal.main_arg0) = x
  generalize m ((c.tc : Thread Cert.ReferenceIdeal.nD Cert.ReferenceIdeal.τ).loc Cert.ReferenceIdeal.main_arg1) = w
  generalize m ((c.tc : Thread Cert.ReferenceIdeal.nD Cert.ReferenceIdeal.τ).loc Cert.ReferenceIdeal.main_arg2) = sx
  generalize m ((c.tc : Thread Cert.ReferenceIdeal.nD Cert.ReferenceIdeal.τ).loc Cert.ReferenceIdeal.main_arg3) = sw
  funext j
  have hd := host_dot (M := 4096) (K := 4096) (N := 2048) x w (by decide) (j 0) (j 1)
  rw [← eq_ix2 j] at hd
  unfold silu act
  rw [← hd, ← Ideal.ofBits_one_f32]
  rw [reference_dims]
  pointwise
  generalize (∑ _ : Fin 4096, (_ : EReal)) = d
  rfl

/-! ## The precondition -/

/-- Where the precondition's first result is set at a row of the device's rows, that row's sum of squares is below 2²⁴; -/
theorem energy_row (x : IVec ⟨2, ![512, 4096]⟩ 8) (w : IVec ⟨2, ![4096, 256]⟩ 8) (sx sw : FVec Ideal ⟨1, ![1]⟩ .f32) (r : Fin 512)
    (h : (Cert.Pre_tame_KernelIdeal.fn (F := Ideal) x w sx sw).1 (ix1 r) = 1#1) : energy (row x r) < 16777216 := by
  rw [← cmp_bound, show energy _ = dot _ _ from rfl, ← sum_mul_eq_dot]
  unfold Cert.Pre_tame_KernelIdeal.fn at h
  dsimp only at h
  pointwise at h
  change BitVec.ofBool (decide ((∑ k : Fin 4096, ((((row x r k).signExtend 32).toInt : ℝ) : EReal) * ((((row x r k).signExtend 32).toInt : ℝ) : EReal)) < _)) = 1#1 at h
  simp only [widen_toInt] at h
  exact h

/-- and its second, the column's. -/
theorem energy_col (x : IVec ⟨2, ![512, 4096]⟩ 8) (w : IVec ⟨2, ![4096, 256]⟩ 8) (sx sw : FVec Ideal ⟨1, ![1]⟩ .f32) (c : Fin 256)
    (h : (Cert.Pre_tame_KernelIdeal.fn (F := Ideal) x w sx sw).2 (ix1 c) = 1#1) : energy (col w c) < 16777216 := by
  rw [← cmp_bound, show energy _ = dot _ _ from rfl, ← sum_mul_eq_dot]
  unfold Cert.Pre_tame_KernelIdeal.fn at h
  dsimp only at h
  pointwise at h
  change BitVec.ofBool (decide ((∑ k : Fin 4096, ((((col w c k).signExtend 32).toInt : ℝ) : EReal) * ((((col w c k).signExtend 32).toInt : ℝ) : EReal)) < _)) = 1#1 at h
  simp only [widen_toInt] at h
  exact h

/-! ## One block of rows -/

/-- The body's product is a plain one too. -/
theorem kernel_dims : Cert.KernelIdeal.dot_S512x4096_S4096x256_S512x256_1_0_0_1_n_n = DotDims.plain 512 4096 256 := rfl

/-- What the body stores for one block of rows, at an element that is determined. -/
theorem rows_apply (s : Ideal .f32) (x : IVec ⟨2, ![512, 4096]⟩ 8) (w : IVec ⟨2, ![4096, 256]⟩ 8) (r : Fin 512) (c : Fin 256)
    (h : total (row x r) (col w c) < 16777216) :
    Cert.KernelIdeal.Gen.k0_pay3 (F := Ideal) s x w (ix2 r c) = act s (dot (row x r) (col w c)) := by
  have hm := matmul_toInt x w (constantI ⟨2, ![512, 256]⟩ 32 0#32) r c rfl h
  unfold act
  rw [← hm, ← Ideal.ofBits_one_f32]
  unfold Cert.KernelIdeal.Gen.k0_pay3
  pointwise
  rw [zero_sub, kernel_dims]
  generalize matmulI8 IntMxuNumerics.v7x (DotDims.plain 512 4096 256) x w _ (ix2 r c) = d
  rfl

end Cert.Whole

end
-- ==== Proof.Equation.lean ====
/-
# The value claims

A device's result at an element is the reference's at that element's place in the whole array, wherever the chip's product is
the exact sum: at the elements the mask sets, and at all of them under the precondition.
-/
module

public import proofs.«01_k».proof.Proof.Whole

@[expose] public section

set_option maxRecDepth 16384

noncomputable section

namespace Cert.Equation

open Idealize.ShloMosaic Idealize.ShloMosaic.TcCoe Idealize.SL.Sem
open Cert.KernelIdeal Cert.KernelIdeal.Gen Cert.Exchange Cert.Words Cert.Whole

/-- The reference's one core. -/
abbrev refCore : Thread Cert.ReferenceIdeal.nD Cert.ReferenceIdeal.τ := (0 : Dev Cert.ReferenceIdeal.nD).tc

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
  (ρ' : Dev Cert.ReferenceIdeal.nD → PrngReg)

/-! ## The staged arrays -/

/-- Each staged array is the argument itself. -/
theorem xstg_eq (c : Dev nD) : xstg m ρ c = m ((c : Thread nD τ).loc main_arg0) :=
  Memref.read_access_unit_zero (Elt Ideal) main_arg0 (funext fun a => by fin_cases a <;> decide) (fun a => by fin_cases a <;> decide) _
theorem wstg_eq (c : Dev nD) : wstg m ρ c = m ((c : Thread nD τ).loc main_arg1) :=
  Memref.read_access_unit_zero (Elt Ideal) main_arg1 (funext fun a => by fin_cases a <;> decide) (fun a => by fin_cases a <;> decide) _
theorem sxstg_eq (c : Dev nD) : sxstg m ρ c = m ((c : Thread nD τ).loc main_arg2) :=
  Memref.read_access_unit_zero (Elt Ideal) main_arg2 (funext fun a => by fin_cases a <;> decide) (fun a => by fin_cases a <;> decide) _
theorem swstg_eq (c : Dev nD) : swstg m ρ c = m ((c : Thread nD τ).loc main_arg3) :=
  Memref.read_access_unit_zero (Elt Ideal) main_arg3 (funext fun a => by fin_cases a <;> decide) (fun a => by fin_cases a <;> decide) _

/-- The result array ends as `outAt`. -/
theorem final_out (c : Dev nD) : finalA m ρ c (4 : Fin 5) = outAt m ρ c :=
  (Memref.read_access_unit_zero (Elt Ideal) main_v1 (funext fun a => by fin_cases a <;> decide) (fun a => by fin_cases a <;> decide) _).symm.trans
    (finalA_4 m ρ c)

/-- An array of one entry is read at its one index. -/
theorem one_entry (s : FVec Ideal ⟨1, ![1]⟩ .f32) (i : (⟨1, ![1]⟩ : Shape).Idx) : s i = s (ix1 0) := by
  rw [eq_ix1 i]; exact congrArg (fun k => s (ix1 k)) (Subsingleton.elim (α := Fin 1) _ _)

/-- The scale factor is the product of the two scales. -/
theorem scl_eq (c : Dev nD) (sx sw : FVec Ideal ⟨1, ![1]⟩ .f32) (hx : m ((c : Thread nD τ).loc main_arg2) = sx)
    (hw : m ((c : Thread nD τ).loc main_arg3) = sw) : scl m ρ c = sx (ix1 0) * sw (ix1 0) := by
  subst hx hw
  unfold scl
  rw [sxstg_eq, swstg_eq]
  exact congrArg₂ (fun a b : Ideal .f32 => Scalar.mulf a b) (one_entry _ _) (one_entry _ _)

/-! ## Where the blocks lie -/

/-- The device's arrays are its parts of the reference's. -/
def Agrees : Prop := ∀ c : Dev nD,
  m ((c : Thread nD τ).loc main_arg0) = Layout.block ⟨2, ![512, 4096]⟩ ⟨2, ![4096, 4096]⟩ 0 8 c (m' (refCore.loc Cert.ReferenceIdeal.main_arg0))
  ∧ m ((c : Thread nD τ).loc main_arg1) = Layout.block ⟨2, ![4096, 256]⟩ ⟨2, ![4096, 2048]⟩ 1 8 c (m' (refCore.loc Cert.ReferenceIdeal.main_arg1))
  ∧ m ((c : Thread nD τ).loc main_arg2) = m' (refCore.loc Cert.ReferenceIdeal.main_arg2)
  ∧ m ((c : Thread nD τ).loc main_arg3) = m' (refCore.loc Cert.ReferenceIdeal.main_arg3)

/-- The place in the whole result of index `i` of device `c`'s part. -/
def place (c : Dev nD) (i : (⟨2, ![4096, 256]⟩ : Shape).Idx) : (⟨2, ![4096, 2048]⟩ : Shape).Idx :=
  (show Layout.Tiles ⟨2, ![4096, 256]⟩ ⟨2, ![4096, 2048]⟩ 1 8 by decide).idx c i

/-- The row of the whole `x` that row `i` of the result is made of, as held by the device whose block it is in; -/
theorem row_place (x : IVec ⟨2, ![4096, 4096]⟩ 8) (c : Dev nD) (i : (⟨2, ![4096, 256]⟩ : Shape).Idx) :
    row (Layout.block ⟨2, ![512, 4096]⟩ ⟨2, ![4096, 4096]⟩ 0 8 (rowDev i) x) (blkIdx i 0) = row x (place c i 0) := by
  funext k
  refine congrArg x (funext fun a => Fin.ext ?_)
  match a with
  | ⟨0, _⟩ => exact Nat.div_add_mod' (i 0).val 512
  | ⟨1, _⟩ => rfl

/-- and the column of the whole `w`. -/
theorem col_place (w : IVec ⟨2, ![4096, 2048]⟩ 8) (c : Dev nD) (i : (⟨2, ![4096, 256]⟩ : Shape).Idx) :
    col (Layout.block ⟨2, ![4096, 256]⟩ ⟨2, ![4096, 2048]⟩ 1 8 c w) (blkIdx i 1) = col w (place c i 1) := by
  funext k
  refine congrArg w (funext fun a => Fin.ext ?_)
  match a with
  | ⟨0, _⟩ => rfl
  | ⟨1, _⟩ => rfl

/-! ## The result -/

/-- The value both programs compute: `silu` of the reference's arguments. -/
def value : FVec Ideal ⟨2, ![4096, 2048]⟩ .f32 :=
  silu (m' (refCore.loc Cert.ReferenceIdeal.main_arg0)) (m' (refCore.loc Cert.ReferenceIdeal.main_arg1))
    (m' (refCore.loc Cert.ReferenceIdeal.main_arg2)) (m' (refCore.loc Cert.ReferenceIdeal.main_arg3))

/-- The total of the magnitudes at a place of the whole result. -/
def totalAt (j : (⟨2, ![4096, 2048]⟩ : Shape).Idx) : ℕ :=
  total (row (m' (refCore.loc Cert.ReferenceIdeal.main_arg0) : IVec ⟨2, ![4096, 4096]⟩ 8) (j 0))
    (col (m' (refCore.loc Cert.ReferenceIdeal.main_arg1) : IVec ⟨2, ![4096, 2048]⟩ 8) (j 1))

/-- A device's result at an element is `value` at its place, wherever the total there is below 2²⁴. -/
theorem out_eq (h : Agrees m m') (c : Dev nD) (i : (⟨2, ![4096, 256]⟩ : Shape).Idx) (ht : totalAt m' (place c i) < 16777216) :
    outAt m ρ c i = value m' (place c i) := by
  show k0_pay3 (scl m ρ c) (xstg m ρ (rowDev i)) (wstg m ρ c) (blkIdx i) = _
  rw [scl_eq m ρ c _ _ (h c).2.2.1 (h c).2.2.2, xstg_eq, wstg_eq, (h (rowDev i)).1, (h c).2.1, eq_ix2 (blkIdx i)]
  refine (rows_apply _ _ _ (blkIdx i 0) (blkIdx i 1) ?_).trans ?_
  · rw [row_place _ c i, col_place]; exact ht
  · rw [row_place _ c i, col_place]; rfl

/-- The kernel's run: the arguments end unchanged, and each device's result is its part of `value` wherever the total is
    below 2²⁴. -/
theorem kernel_run (h : Agrees m m') : θ_run defs (onTc (τ := τ) (main (F := Ideal))) ⟨m, fun _ => 0, ρ⟩ fun r => ∀ c : Dev nD,
    (∀ i : (⟨2, ![4096, 256]⟩ : Shape).Idx, totalAt m' (place c i) < 16777216 →
      r.2.mem ((c : Thread nD τ).loc main_v1) i = value m' (place c i))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r hr c => ⟨fun i hi =>
      (congrFun ((hr.1 c (4 : Fin 5)).trans (final_out m ρ c)) i).trans (out_eq m ρ m' h c i hi), QC_args m ρ hr.1 c⟩)
    (run_main m ρ)

/-! ## The claims -/

theorem on_determined : Cert.algebraic_KernelIdeal_ReferenceIdeal_on_determined := fun m ρ m' ρ' _ h =>
  ⟨value m',
    (θ_run defs _ _).mono (fun _ hr c => ⟨fun i hi => (hr c).1 i ((determined_iff _ _ _ _ _).mp hi), (hr c).2⟩) (kernel_run m ρ m' h),
    (θ_run Cert.ReferenceIdeal.defs _ _).mono (fun _ hr => ⟨fun i _ => congrFun (hr 0).1 i, (hr 0).2⟩) (reference_run m' ρ')⟩

/-- Under the precondition every total is below 2²⁴. -/
theorem total_lt (h : Agrees m m') (hp : Cert.Pre_KernelIdeal_tame_KernelIdeal m) (c : Dev nD) (i : (⟨2, ![4096, 256]⟩ : Shape).Idx) :
    totalAt m' (place c i) < 16777216 := by
  have hr := energy_row _ _ _ _ (blkIdx i 0) (congrFun (hp (rowDev i)).1 _)
  have hc := energy_col _ _ _ _ (blkIdx i 1) (congrFun (hp c).2 _)
  rw [(h (rowDev i)).1, row_place _ c i] at hr
  rw [(h c).2.1, col_place] at hc
  exact total_lt_of_energy _ _ hr hc

theorem pre_tame : Cert.algebraic_KernelIdeal_ReferenceIdeal_pre_tame_KernelIdeal := fun m ρ m' ρ' hp h =>
  ⟨value m',
    (θ_run defs _ _).mono (fun _ hr c => ⟨funext fun i => (hr c).1 i (total_lt m m' h hp c i), (hr c).2⟩) (kernel_run m ρ m' h),
    (θ_run Cert.ReferenceIdeal.defs _ _).mono (fun _ hr => hr 0) (reference_run m' ρ')⟩

end Cert.Equation

end
-- ==== Proof.lean ====
/-
# The certificate

The run is proved once, for `KernelIdeal` over any float values; `Kernel` is the same text, so its frame is that run at the
bit-exact values. The value claims are `Equation`'s.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_determined
public import proofs.«01_k».proof.Proof.Gen.Pre_tame_KernelIdeal
public import proofs.«01_k».proof.Proof.Gen.Pre_tame_ReferenceIdeal
public import proofs.«01_k».proof.Proof.Run
public import proofs.«01_k».proof.Proof.Equation

@[expose] public section

noncomputable section

namespace Cert.Proof

open Idealize.ShloMosaic Idealize.SL.Sem

/-- The two programs' bodies are one text, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- and so are their tables. -/
theorem tables_eq {F : FTy → Type} [FloatOps F] : Cert.Kernel.defs (F := F) = Cert.KernelIdeal.defs (F := F) :=
  congrArg (Pipeline.defs Cert.KernelIdeal.pcfgs) bodies_eq

theorem frame_kernel : Cert.quiescent_Kernel := fun m ρ _ => by
  have h := Exchange.run_frame (F := Bits) m ρ
  rw [← tables_eq] at h
  exact h

theorem frame_kernelIdeal : Cert.quiescent_KernelIdeal := fun m ρ _ =>
  Exchange.run_frame (F := Ideal) m ρ

/-- The reference has no semaphore, so its counters are zero whatever it does. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition of the second value claim the two frames hold as they do without it. -/
theorem claim : Cert.Claim := ⟨Cert.Kernel.Gen.facts, Cert.KernelIdeal.Gen.facts, Cert.ReferenceIdeal.Gen.facts,
  Cert.Pre_tame_KernelIdeal.Gen.facts, Cert.Pre_tame_ReferenceIdeal.Gen.facts, Cert.On_determined.Gen.facts,
  frame_kernel, frame_kernelIdeal, fun m ρ _ => frame_kernelIdeal m ρ trivial,
  frame_reference, fun m ρ _ => frame_reference m ρ trivial, trivial,
  Equation.on_determined, Equation.pre_tame⟩

end Cert.Proof

end
